-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v26_0)) (v1 : (c : Dev Cert.Kernel8Ideal.nD) → Buf (Elt Ideal) ((c.tc : Thread Cert.Kernel8Ideal.nD Cert.Kernel8Ideal.τ).loc Cert.Kernel8Ideal.main_v26_1)) (v2 : (c : Dev Cert.Kernel8Ideal.nD) → Buf (Elt Ideal) ((c.tc : Thread Cert.Kernel8Ideal.nD Cert.Kernel8Ideal.τ).loc Cert.Kernel8Ideal.main_v26_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v26_0) = v0 c
          ∧ r.2.mem ((c.tc : Thread Cert.Kernel8Ideal.nD Cert.Kernel8Ideal.τ).loc Cert.Kernel8Ideal.main_v26_1) = v1 c
          ∧ r.2.mem ((c.tc : Thread Cert.Kernel8Ideal.nD Cert.Kernel8Ideal.τ).loc Cert.Kernel8Ideal.main_v26_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v102) = v0 c
          ∧ r.2.mem ((c.tc : Thread Cert.Reference8Ideal.nD Cert.Reference8Ideal.τ).loc Cert.Reference8Ideal.main_v103) = v1 c
          ∧ r.2.mem ((c.tc : Thread Cert.Reference8Ideal.nD Cert.Reference8Ideal.τ).loc Cert.Reference8Ideal.main_v104) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v28_0)) (v1 : (c : Dev Cert.Kernel10Ideal.nD) → Buf (Elt Ideal) ((c.tc : Thread Cert.Kernel10Ideal.nD Cert.Kernel10Ideal.τ).loc Cert.Kernel10Ideal.main_v28_1)) (v2 : (c : Dev Cert.Kernel10Ideal.nD) → Buf (Elt Ideal) ((c.tc : Thread Cert.Kernel10Ideal.nD Cert.Kernel10Ideal.τ).loc Cert.Kernel10Ideal.main_v28_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v28_0) = v0 c
          ∧ r.2.mem ((c.tc : Thread Cert.Kernel10Ideal.nD Cert.Kernel10Ideal.τ).loc Cert.Kernel10Ideal.main_v28_1) = v1 c
          ∧ r.2.mem ((c.tc : Thread Cert.Kernel10Ideal.nD Cert.Kernel10Ideal.τ).loc Cert.Kernel10Ideal.main_v28_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v104) = v0 c
          ∧ r.2.mem ((c.tc : Thread Cert.Reference10Ideal.nD Cert.Reference10Ideal.τ).loc Cert.Reference10Ideal.main_v105) = v1 c
          ∧ r.2.mem ((c.tc : Thread Cert.Reference10Ideal.nD Cert.Reference10Ideal.τ).loc Cert.Reference10Ideal.main_v106) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v19) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v11)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v11) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4x4096x1024 : Shape := ⟨3, ![4, 4096, 1024]⟩
abbrev S1024 : Shape := ⟨1, ![1024]⟩
abbrev S1024x8 : Shape := ⟨2, ![1024, 8]⟩
abbrev S8x1024x1408 : Shape := ⟨3, ![8, 1024, 1408]⟩
abbrev S8x1408x1024 : Shape := ⟨3, ![8, 1408, 1024]⟩
abbrev S1024x1 : Shape := ⟨2, ![1024, 1]⟩
abbrev S_ : Shape := ⟨0, ![]⟩

class Facts : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x8 : S_.BroadcastsInDim S1024x8 (![] : Fin 0 → Fin S1024x8.rank)
  bcast_S1024x1_S1024x8_0_1 : S1024x1.BroadcastsInDim S1024x8 (![0, 1] : Fin 2 → Fin S1024x8.rank)

variable [Facts]

def fn {F : FTy → Type} [FloatOps F] (main_arg0 : FVec F S4x4096x1024 .f32) (main_arg1 : FVec F S1024 .f32) (main_arg2 : FVec F S1024x8 .f32) (main_arg3 : FVec F S8x1024x1408 .f32) (main_arg4 : FVec F S8x1024x1408 .f32) (main_arg5 : FVec F S8x1408x1024 .f32) : IVec S1024x8 1 :=
  let main_v0 : FVec F S1024 .f32 := Host.absf main_arg1
  let main_v1 : FVec F S1024x1 .f32 := broadcastInDim S1024x1 ![0] bcast_S1024_S1024x1_0 main_v0
  let main_cst : FVec F S_ .f32 := constant S_ .f32 0x7F800000#32
  let main_v2 : FVec F S1024x1 .f32 := broadcastInDim S1024x1 ![] bcast_S_S1024x1 main_cst
  let main_v3 : IVec S1024x1 1 := cmpf .olt main_v1 main_v2
  let main_v4 : FVec F S1024x8 .f32 := Host.absf main_arg2
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_v7 : IVec S1024x8 1 := broadcastInDim S1024x8 ![0, 1] bcast_S1024x1_S1024x8_0_1 main_v3
  let main_v8 : IVec S1024x8 1 := andi main_v7 main_v6
  main_v8
-- ==== Kernel.lean ====
abbrev S4x4096x1024 : Shape := ⟨3, ![4, 4096, 1024]⟩
abbrev S1024 : Shape := ⟨1, ![1024]⟩
abbrev S1024x8 : Shape := ⟨2, ![1024, 8]⟩
abbrev S8x1024x1408 : Shape := ⟨3, ![8, 1024, 1408]⟩
abbrev S8x1408x1024 : Shape := ⟨3, ![8, 1408, 1024]⟩
abbrev S16384x1024 : Shape := ⟨2, ![16384, 1024]⟩
abbrev S1x1024 : Shape := ⟨2, ![1, 1024]⟩
abbrev S_ : Shape := ⟨0, ![]⟩
abbrev S1024x128 : Shape := ⟨2, ![1024, 128]⟩
abbrev S512x1024 : Shape := ⟨2, ![512, 1024]⟩
abbrev S1x1024x1408 : Shape := ⟨3, ![1, 1024, 1408]⟩
abbrev S1x1408x1024 : Shape := ⟨3, ![1, 1408, 1024]⟩
abbrev S512x128 : Shape := ⟨2, ![512, 128]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 15
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x8, .f32⟩
  | .hbm, ⟨3, _⟩ => ⟨S8x1024x1408, .f32⟩
  | .hbm, ⟨4, _⟩ => ⟨S8x1024x1408, .f32⟩
  | .hbm, ⟨5, _⟩ => ⟨S8x1408x1024, .f32⟩
  | .hbm, ⟨6, _⟩ => ⟨S16384x1024, .f32⟩
  | .hbm, ⟨7, _⟩ => ⟨S8x1024x1408, .bf16⟩
  | .hbm, ⟨8, _⟩ => ⟨S8x1024x1408, .bf16⟩
  | .hbm, ⟨9, _⟩ => ⟨S8x1408x1024, .bf16⟩
  | .hbm, ⟨10, _⟩ => ⟨S1x1024, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1408x1024, .bf16⟩
  | .local _ .vmem, ⟨9, _⟩ => ⟨S1x1408x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | .local _ .vmem, ⟨14, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![32, 8, 1], ![false, false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let arg2 : BitVec 32 := BitVec.ofNat 32 (i 2).val
  let c0_i32_22 : BitVec 32 := 0#32
  let v35 : BitVec 1 := Scalar.cmpi .eq arg2 c0_i32_22
  let v36 : BitVec 1 := Scalar.andi v34 v35
  let v37 : BitVec 32 := Scalar.extui v36
  let c0_i32_23 : BitVec 32 := 0#32
  let v38 : BitVec 1 := Scalar.cmpi .ne v37 c0_i32_23
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== ReferenceIdeal.lean ====
abbrev S4x4096x1024 : Shape := ⟨3, ![4, 4096, 1024]⟩
abbrev S1024 : Shape := ⟨1, ![1024]⟩
abbrev S1024x8 : Shape := ⟨2, ![1024, 8]⟩
abbrev S8x1024x1408 : Shape := ⟨3, ![8, 1024, 1408]⟩
abbrev S8x1408x1024 : Shape := ⟨3, ![8, 1408, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x8 : Shape := ⟨3, ![4, 4096, 8]⟩
abbrev S4x4096x2 : Shape := ⟨3, ![4, 4096, 2]⟩
abbrev S4x4096x2x1 : Shape := ⟨4, ![4, 4096, 2, 1]⟩
abbrev S1x1x1x8 : Shape := ⟨4, ![1, 1, 1, 8]⟩
abbrev S4x4096x2x8 : Shape := ⟨4, ![4, 4096, 2, 8]⟩
abbrev S1x1024x1408 : Shape := ⟨3, ![1, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S4x4096x1408 : Shape := ⟨3, ![4, 4096, 1408]⟩
abbrev S16384x1024 : Shape := ⟨2, ![16384, 1024]⟩

abbrev nBuf : Space → Nat
  | .hbm => 234
  | .vmem => 0
  | .smem => 0
  | _ => 0

abbrev hbmTy0_0 (i : Nat) : BufTy := match i % 128 with
  | 0 => ⟨S4x4096x1024, .f32⟩
  | 1 => ⟨S1024, .f32⟩
  | 2 => ⟨S1024x8, .f32⟩
  | 3 => ⟨S8x1024x1408, .f32⟩
  | 4 => ⟨S8x1024x1408, .f32⟩
  | 5 => ⟨S8x1408x1024, .f32⟩
  | 6 => ⟨S4x4096x1024, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S_, .f32⟩
  | 14 => ⟨S4x4096x1, .f32⟩
  | 15 => ⟨S4x4096x1, .f32⟩
  | 16 => ⟨S4x4096x1, .f32⟩
  | 17 => ⟨S4x4096x1024, .f32⟩
  | 18 => ⟨S4x4096x1024, .f32⟩
  | 19 => ⟨S1x1x1024, .f32⟩
  | 20 => ⟨S4x4096x1024, .f32⟩
  | 21 => ⟨S4x4096x1024, .f32⟩
  | 22 => ⟨S4x4096x8, .f32⟩
  | 23 => ⟨S4x4096x2, .f32⟩
  | 24 => ⟨S4x4096x2, .i32⟩
  | 25 => ⟨S_, .f32⟩
  | 26 => ⟨S4x4096, .f32⟩
  | 27 => ⟨S_, .f32⟩
  | 28 => ⟨S4x4096, .f32⟩
  | 29 => ⟨S4x4096, .f32⟩
  | 30 => ⟨S4x4096x1, .f32⟩
  | 31 => ⟨S4x4096x2, .f32⟩
  | 32 => ⟨S4x4096x2, .f32⟩
  | 33 => ⟨S4x4096x2, .f32⟩
  | 34 => ⟨S_, .f32⟩
  | 35 => ⟨S4x4096, .f32⟩
  | 36 => ⟨S4x4096x1, .f32⟩
  | 37 => ⟨S4x4096x2, .f32⟩
  | 38 => ⟨S4x4096x2, .f32⟩
  | 39 => ⟨S4x4096x2x1, .i32⟩
  | 40 => ⟨S1x1x1x8, .i32⟩
  | 41 => ⟨S4x4096x2x8, .i32⟩
  | 42 => ⟨S4x4096x2x8, .i32⟩
  | 43 => ⟨S4x4096x2x8, .i1⟩
  | 44 => ⟨S4x4096x2x8, .f32⟩
  | 45 => ⟨S4x4096x8, .f32⟩
  | 46 => ⟨S_, .f32⟩
  | 47 => ⟨S4x4096x1024, .f32⟩
  | 48 => ⟨S4x4096x1, .f32⟩
  | 49 => ⟨S1x1024x1408, .f32⟩
  | 50 => ⟨S1024x1408, .f32⟩
  | 51 => ⟨S1x1024x1408, .f32⟩
  | 52 => ⟨S1024x1408, .f32⟩
  | 53 => ⟨S1x1408x1024, .f32⟩
  | 54 => ⟨S1408x1024, .f32⟩
  | 55 => ⟨S4x4096x1408, .f32⟩
  | 56 => ⟨S4x4096x1408, .f32⟩
  | 57 => ⟨S4x4096x1408, .f32⟩
  | 58 => ⟨S_, .f32⟩
  | 59 => ⟨S4x4096x1408, .f32⟩
  | 60 => ⟨S4x4096x1408, .f32⟩
  | 61 => ⟨S_, .f32⟩
  | 62 => ⟨S4x4096x1408, .f32⟩
  | 63 => ⟨S4x4096x1408, .f32⟩
  | 64 => ⟨S4x4096x1408, .f32⟩
  | 65 => ⟨S4x4096x1408, .f32⟩
  | 66 => ⟨S4x4096x1408, .f32⟩
  | 67 => ⟨S4x4096x1024, .f32⟩
  | 68 => ⟨S4x4096x1024, .f32⟩
  | 69 => ⟨S4x4096x1024, .f32⟩
  | 70 => ⟨S4x4096x1024, .f32⟩
  | 71 => ⟨S4x4096x1, .f32⟩
  | 72 => ⟨S1x1024x1408, .f32⟩
  | 73 => ⟨S1024x1408, .f32⟩
  | 74 => ⟨S1x1024x1408, .f32⟩
  | 75 => ⟨S1024x1408, .f32⟩
  | 76 => ⟨S1x1408x1024, .f32⟩
  | 77 => ⟨S1408x1024, .f32⟩
  | 78 => ⟨S4x4096x1408, .f32⟩
  | 79 => ⟨S4x4096x1408, .f32⟩
  | 80 => ⟨S4x4096x1408, .f32⟩
  | 81 => ⟨S_, .f32⟩
  | 82 => ⟨S4x4096x1408, .f32⟩
  | 83 => ⟨S4x4096x1408, .f32⟩
  | 84 => ⟨S_, .f32⟩
  | 85 => ⟨S4x4096x1408, .f32⟩
  | 86 => ⟨S4x4096x1408, .f32⟩
  | 87 => ⟨S4x4096x1408, .f32⟩
  | 88 => ⟨S4x4096x1408, .f32⟩
  | 89 => ⟨S4x4096x1408, .f32⟩
  | 90 => ⟨S4x4096x1024, .f32⟩
  | 91 => ⟨S4x4096x1024, .f32⟩
  | 92 => ⟨S4x4096x1024, .f32⟩
  | 93 => ⟨S4x4096x1024, .f32⟩
  | 94 => ⟨S4x4096x1, .f32⟩
  | 95 => ⟨S1x1024x1408, .f32⟩
  | 96 => ⟨S1024x1408, .f32⟩
  | 97 => ⟨S1x1024x1408, .f32⟩
  | 98 => ⟨S1024x1408, .f32⟩
  | 99 => ⟨S1x1408x1024, .f32⟩
  | 100 => ⟨S1408x1024, .f32⟩
  | 101 => ⟨S4x4096x1408, .f32⟩
  | 102 => ⟨S4x4096x1408, .f32⟩
  | 103 => ⟨S4x4096x1408, .f32⟩
  | 104 => ⟨S_, .f32⟩
  | 105 => ⟨S4x4096x1408, .f32⟩
  | 106 => ⟨S4x4096x1408, .f32⟩
  | 107 => ⟨S_, .f32⟩
  | 108 => ⟨S4x4096x1408, .f32⟩
  | 109 => ⟨S4x4096x1408, .f32⟩
  | 110 => ⟨S4x4096x1408, .f32⟩
  | 111 => ⟨S4x4096x1408, .f32⟩
  | 112 => ⟨S4x4096x1408, .f32⟩
  | 113 => ⟨S4x4096x1024, .f32⟩
  | 114 => ⟨S4x4096x1024, .f32⟩
  | 115 => ⟨S4x4096x1024, .f32⟩
  | 116 => ⟨S4x4096x1024, .f32⟩
  | 117 => ⟨S4x4096x1, .f32⟩
  | 118 => ⟨S1x1024x1408, .f32⟩
  | 119 => ⟨S1024x1408, .f32⟩
  | 120 => ⟨S1x1024x1408, .f32⟩
  | 121 => ⟨S1024x1408, .f32⟩
  | 122 => ⟨S1x1408x1024, .f32⟩
  | 123 => ⟨S1408x1024, .f32⟩
  | 124 => ⟨S4x4096x1408, .f32⟩
  | 125 => ⟨S4x4096x1408, .f32⟩
  | 126 => ⟨S4x4096x1408, .f32⟩
  | 127 => ⟨S_, .f32⟩
  | _ => ⟨S4x4096x1024, .f32⟩

abbrev hbmTy0_1 (i : Nat) : BufTy := match i % 128 with
  | 0 => ⟨S4x4096x1408, .f32⟩
  | 1 => ⟨S4x4096x1408, .f32⟩
  | 2 => ⟨S_, .f32⟩
  | 3 => ⟨S4x4096x1408, .f32⟩
  | 4 => ⟨S4x4096x1408, .f32⟩
  | 5 => ⟨S4x4096x1408, .f32⟩
  | 6 => ⟨S4x4096x1408, .f32⟩
  | 7 => ⟨S4x4096x1408, .f32⟩
  | 8 => ⟨S4x4096x1024, .f32⟩
  | 9 => ⟨S4x4096x1024, .f32⟩
  | 10 => ⟨S4x4096x1024, .f32⟩
  | 11 => ⟨S4x4096x1024, .f32⟩
  | 12 => ⟨S4x4096x1, .f32⟩
  | 13 => ⟨S1x1024x1408, .f32⟩
  | 14 => ⟨S1024x1408, .f32⟩
  | 15 => ⟨S1x1024x1408, .f32⟩
  | 16 => ⟨S1024x1408, .f32⟩
  | 17 => ⟨S1x1408x1024, .f32⟩
  | 18 => ⟨S1408x1024, .f32⟩
  | 19 => ⟨S4x4096x1408, .f32⟩
  | 20 => ⟨S4x4096x1408, .f32⟩
  | 21 => ⟨S4x4096x1408, .f32⟩
  | 22 => ⟨S_, .f32⟩
  | 23 => ⟨S4x4096x1408, .f32⟩
  | 24 => ⟨S4x4096x1408, .f32⟩
  | 25 => ⟨S_, .f32⟩
  | 26 => ⟨S4x4096x1408, .f32⟩
  | 27 => ⟨S4x4096x1408, .f32⟩
  | 28 => ⟨S4x4096x1408, .f32⟩
  | 29 => ⟨S4x4096x1408, .f32⟩
  | 30 => ⟨S4x4096x1408, .f32⟩
  | 31 => ⟨S4x4096x1024, .f32⟩
  | 32 => ⟨S4x4096x1024, .f32⟩
  | 33 => ⟨S4x4096x1024, .f32⟩
  | 34 => ⟨S4x4096x1024, .f32⟩
  | 35 => ⟨S4x4096x1, .f32⟩
  | 36 => ⟨S1x1024x1408, .f32⟩
  | 37 => ⟨S1024x1408, .f32⟩
  | 38 => ⟨S1x1024x1408, .f32⟩
  | 39 => ⟨S1024x1408, .f32⟩
  | 40 => ⟨S1x1408x1024, .f32⟩
  | 41 => ⟨S1408x1024, .f32⟩
  | 42 => ⟨S4x4096x1408, .f32⟩
  | 43 => ⟨S4x4096x1408, .f32⟩
  | 44 => ⟨S4x4096x1408, .f32⟩
  | 45 => ⟨S_, .f32⟩
  | 46 => ⟨S4x4096x1408, .f32⟩
  | 47 => ⟨S4x4096x1408, .f32⟩
  | 48 => ⟨S_, .f32⟩
  | 49 => ⟨S4x4096x1408, .f32⟩
  | 50 => ⟨S4x4096x1408, .f32⟩
  | 51 => ⟨S4x4096x1408, .f32⟩
  | 52 => ⟨S4x4096x1408, .f32⟩
  | 53 => ⟨S4x4096x1408, .f32⟩
  | 54 => ⟨S4x4096x1024, .f32⟩
  | 55 => ⟨S4x4096x1024, .f32⟩
  | 56 => ⟨S4x4096x1024, .f32⟩
  | 57 => ⟨S4x4096x1024, .f32⟩
  | 58 => ⟨S4x4096x1, .f32⟩
  | 59 => ⟨S1x1024x1408, .f32⟩
  | 60 => ⟨S1024x1408, .f32⟩
  | 61 => ⟨S1x1024x1408, .f32⟩
  | 62 => ⟨S1024x1408, .f32⟩
  | 63 => ⟨S1x1408x1024, .f32⟩
  | 64 => ⟨S1408x1024, .f32⟩
  | 65 => ⟨S4x4096x1408, .f32⟩
  | 66 => ⟨S4x4096x1408, .f32⟩
  | 67 => ⟨S4x4096x1408, .f32⟩
  | 68 => ⟨S_, .f32⟩
  | 69 => ⟨S4x4096x1408, .f32⟩
  | 70 => ⟨S4x4096x1408, .f32⟩
  | 71 => ⟨S_, .f32⟩
  | 72 => ⟨S4x4096x1408, .f32⟩
  | 73 => ⟨S4x4096x1408, .f32⟩
  | 74 => ⟨S4x4096x1408, .f32⟩
  | 75 => ⟨S4x4096x1408, .f32⟩
  | 76 => ⟨S4x4096x1408, .f32⟩
  | 77 => ⟨S4x4096x1024, .f32⟩
  | 78 => ⟨S4x4096x1024, .f32⟩
  | 79 => ⟨S4x4096x1024, .f32⟩
  | 80 => ⟨S4x4096x1024, .f32⟩
  | 81 => ⟨S4x4096x1, .f32⟩
  | 82 => ⟨S1x1024x1408, .f32⟩
  | 83 => ⟨S1024x1408, .f32⟩
  | 84 => ⟨S1x1024x1408, .f32⟩
  | 85 => ⟨S1024x1408, .f32⟩
  | 86 => ⟨S1x1408x1024, .f32⟩
  | 87 => ⟨S1408x1024, .f32⟩
  | 88 => ⟨S4x4096x1408, .f32⟩
  | 89 => ⟨S4x4096x1408, .f32⟩
  | 90 => ⟨S4x4096x1408, .f32⟩
  | 91 => ⟨S_, .f32⟩
  | 92 => ⟨S4x4096x1408, .f32⟩
  | 93 => ⟨S4x4096x1408, .f32⟩
  | 94 => ⟨S_, .f32⟩
  | 95 => ⟨S4x4096x1408, .f32⟩
  | 96 => ⟨S4x4096x1408, .f32⟩
  | 97 => ⟨S4x4096x1408, .f32⟩
  | 98 => ⟨S4x4096x1408, .f32⟩
  | 99 => ⟨S4x4096x1408, .f32⟩
  | 100 => ⟨S4x4096x1024, .f32⟩
  | 101 => ⟨S4x4096x1024, .f32⟩
  | 102 => ⟨S4x4096x1024, .f32⟩
  | 103 => ⟨S4x4096x1024, .f32⟩
  | 104 => ⟨S4x4096x1024, .f32⟩
  | 105 => ⟨S16384x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_values : Ref sig .tc := ⟨.hbm, 23, rfl⟩
abbrev main_indices : Ref sig .tc := ⟨.hbm, 24, rfl⟩
abbrev main_cst_2 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_call2_v5 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call3_v0 : Ref sig .tc := ⟨.hbm, 102, rfl⟩
abbrev main_call3_v1 : Ref sig .tc := ⟨.hbm, 103, rfl⟩
abbrev main_call3_cst : Ref sig .tc := ⟨.hbm, 104, rfl⟩
abbrev main_call3_v2 : Ref sig .tc := ⟨.hbm, 105, rfl⟩
abbrev main_call3_v3 : Ref sig .tc := ⟨.hbm, 106, rfl⟩
abbrev main_call3_cst_0 : Ref sig .tc := ⟨.hbm, 107, rfl⟩
abbrev main_call3_v4 : Ref sig .tc := ⟨.hbm, 108, rfl⟩
abbrev main_call3_v5 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_call4_v0 : Ref sig .tc := ⟨.hbm, 125, rfl⟩
abbrev main_call4_v1 : Ref sig .tc := ⟨.hbm, 126, rfl⟩
abbrev main_call4_cst : Ref sig .tc := ⟨.hbm, 127, rfl⟩
abbrev main_call4_v2 : Ref sig .tc := ⟨.hbm, 128, rfl⟩
abbrev main_call4_v3 : Ref sig .tc := ⟨.hbm, 129, rfl⟩
abbrev main_call4_cst_0 : Ref sig .tc := ⟨.hbm, 130, rfl⟩
abbrev main_call4_v4 : Ref sig .tc := ⟨.hbm, 131, rfl⟩
abbrev main_call4_v5 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_call5_v0 : Ref sig .tc := ⟨.hbm, 148, rfl⟩
abbrev main_call5_v1 : Ref sig .tc := ⟨.hbm, 149, rfl⟩
abbrev main_call5_cst : Ref sig .tc := ⟨.hbm, 150, rfl⟩
abbrev main_call5_v2 : Ref sig .tc := ⟨.hbm, 151, rfl⟩
abbrev main_call5_v3 : Ref sig .tc := ⟨.hbm, 152, rfl⟩
abbrev main_call5_cst_0 : Ref sig .tc := ⟨.hbm, 153, rfl⟩
abbrev main_call5_v4 : Ref sig .tc := ⟨.hbm, 154, rfl⟩
abbrev main_call5_v5 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_call6_v0 : Ref sig .tc := ⟨.hbm, 171, rfl⟩
abbrev main_call6_v1 : Ref sig .tc := ⟨.hbm, 172, rfl⟩
abbrev main_call6_cst : Ref sig .tc := ⟨.hbm, 173, rfl⟩
abbrev main_call6_v2 : Ref sig .tc := ⟨.hbm, 174, rfl⟩
abbrev main_call6_v3 : Ref sig .tc := ⟨.hbm, 175, rfl⟩
abbrev main_call6_cst_0 : Ref sig .tc := ⟨.hbm, 176, rfl⟩
abbrev main_call6_v4 : Ref sig .tc := ⟨.hbm, 177, rfl⟩
abbrev main_call6_v5 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_call7_v0 : Ref sig .tc := ⟨.hbm, 194, rfl⟩
abbrev main_call7_v1 : Ref sig .tc := ⟨.hbm, 195, rfl⟩
abbrev main_call7_cst : Ref sig .tc := ⟨.hbm, 196, rfl⟩
abbrev main_call7_v2 : Ref sig .tc := ⟨.hbm, 197, rfl⟩
abbrev main_call7_v3 : Ref sig .tc := ⟨.hbm, 198, rfl⟩
abbrev main_call7_cst_0 : Ref sig .tc := ⟨.hbm, 199, rfl⟩
abbrev main_call7_v4 : Ref sig .tc := ⟨.hbm, 200, rfl⟩
abbrev main_call7_v5 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_call8_v0 : Ref sig .tc := ⟨.hbm, 217, rfl⟩
abbrev main_call8_v1 : Ref sig .tc := ⟨.hbm, 218, rfl⟩
abbrev main_call8_cst : Ref sig .tc := ⟨.hbm, 219, rfl⟩
abbrev main_call8_v2 : Ref sig .tc := ⟨.hbm, 220, rfl⟩
abbrev main_call8_v3 : Ref sig .tc := ⟨.hbm, 221, rfl⟩
abbrev main_call8_cst_0 : Ref sig .tc := ⟨.hbm, 222, rfl⟩
abbrev main_call8_v4 : Ref sig .tc := ⟨.hbm, 223, rfl⟩
abbrev main_call8_v5 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4x4096x256 : Shape := ⟨4, ![4, 4, 4096, 256]⟩
abbrev S1024 : Shape := ⟨1, ![1024]⟩
abbrev S1024x1024 : Shape := ⟨2, ![1024, 1024]⟩
abbrev S256x1024 : Shape := ⟨2, ![256, 1024]⟩
abbrev S16384x1024 : Shape := ⟨2, ![16384, 1024]⟩
abbrev S4x16384x256 : Shape := ⟨3, ![4, 16384, 256]⟩
abbrev S1x1024 : Shape := ⟨2, ![1, 1024]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 11
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x4x4096x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S16384x1024, .f32⟩
  | .hbm, ⟨6, _⟩ => ⟨S4x16384x256, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x4096x1024 : Shape := ⟨3, ![4, 4096, 1024]⟩
abbrev S4x4x4096x256 : Shape := ⟨4, ![4, 4, 4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x4x4096x256 : Shape := ⟨4, ![1, 4, 4096, 256]⟩
abbrev S4x4096x256 : Shape := ⟨3, ![4, 4096, 256]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4x4096x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096x1024, .f32⟩
  | .hbm, ⟨29, _⟩ => ⟨S4x4096x1024, .f32⟩
  | .hbm, ⟨30, _⟩ => ⟨S1x4x4096x256, .f32⟩
  | .hbm, ⟨31, _⟩ => ⟨S4x4096x256, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S512x1024 : Shape := ⟨2, ![512, 1024]⟩
abbrev S1x1024x1408 : Shape := ⟨3, ![1, 1024, 1408]⟩
abbrev S1x1408x1024 : Shape := ⟨3, ![1, 1408, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 14
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024x2816, .bf16⟩
  | .hbm, ⟨10, _⟩ => ⟨S1x1024x2816, .bf16⟩
  | .hbm, ⟨11, _⟩ => ⟨S1x2816x1024, .bf16⟩
  | .hbm, ⟨12, _⟩ => ⟨S1x1024, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![32, 1, 2], ![false, false, false]⟩

def k0_cond2 (i : grid0.Coords) : BitVec 1 :=
  let arg1 : BitVec 32 := BitVec.ofNat 32 (i 1).val
  let c0_i32_18 : BitVec 32 := 0#32
  let v24 : BitVec 1 := Scalar.cmpi .eq arg1 c0_i32_18
  let arg2 : BitVec 32 := BitVec.ofNat 32 (i 2).val
  let c1_i32 : BitVec 32 := 1#32
  let v25 : BitVec 1 := Scalar.cmpi .eq arg2 c1_i32
  let v26 : BitVec 1 := Scalar.andi v24 v25
  let v27 : BitVec 32 := Scalar.extui v26
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference3Ideal.lean ====
abbrev S4x4096x1024 : Shape := ⟨3, ![4, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x2816, .f32⟩
  | .hbm, ⟨22, _⟩ => ⟨S4x4096x2816, .f32⟩
  | .hbm, ⟨23, _⟩ => ⟨S4x4096x2816, .f32⟩
  | .hbm, ⟨24, _⟩ => ⟨S_, .f32⟩
  | .hbm, ⟨25, _⟩ => ⟨S4x4096x2816, .f32⟩
  | .hbm, ⟨26, _⟩ => ⟨S4x4096x2816, .f32⟩
  | .hbm, ⟨27, _⟩ => ⟨S_, .f32⟩
  | .hbm, ⟨28, _⟩ => ⟨S4x4096x2816, .f32⟩
  | .hbm, ⟨29, _⟩ => ⟨S4x4096x2816, .f32⟩
  | .hbm, ⟨30, _⟩ => ⟨S4x4096x2816, .f32⟩
  | .hbm, ⟨31, _⟩ => ⟨S4x4096x2816, .f32⟩
  | .hbm, ⟨32, _⟩ => ⟨S4x4096x2816, .f32⟩
  | .hbm, ⟨33, _⟩ => ⟨S4x4096x1024, .f32⟩
  | .hbm, ⟨34, _⟩ => ⟨S4x4096x1024, .f32⟩
  | .hbm, ⟨35, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024 : Shape := ⟨1, ![1024]⟩
abbrev S1024x5648 : Shape := ⟨2, ![1024, 5648]⟩
abbrev S16384x1024 : Shape := ⟨2, ![16384, 1024]⟩
abbrev S1024x1024 : Shape := ⟨2, ![1024, 1024]⟩
abbrev S1024x1536 : Shape := ⟨2, ![1024, 1536]⟩
abbrev S1024x16 : Shape := ⟨2, ![1024, 16]⟩
abbrev S1024x512 : Shape := ⟨2, ![1024, 512]⟩
abbrev S_ : Shape := ⟨0, ![]⟩
abbrev S1024x128 : Shape := ⟨2, ![1024, 128]⟩
abbrev S1024x5760 : Shape := ⟨2, ![1024, 5760]⟩
abbrev S1x1024 : Shape := ⟨2, ![1, 1024]⟩
abbrev S16384x5760 : Shape := ⟨2, ![16384, 5760]⟩
abbrev S1024x1152 : Shape := ⟨2, ![1024, 1152]⟩
abbrev S1024x1 : Shape := ⟨2, ![1024, 1]⟩

abbrev nBuf : Space → Nat
  | .hbm => 18
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5648, .f32⟩
  | .hbm, ⟨3, _⟩ => ⟨S16384x1024, .f32⟩
  | .hbm, ⟨4, _⟩ => ⟨S1024x1024, .f32⟩
  | .hbm, ⟨5, _⟩ => ⟨S1024x1536, .f32⟩
  | .hbm, ⟨6, _⟩ => ⟨S1024x16, .f32⟩
  | .hbm, ⟨7, _⟩ => ⟨S1024x512, .f32⟩
  | .hbm, ⟨8, _⟩ => ⟨S1024x512, .f32⟩
  | .hbm, ⟨9, _⟩ => ⟨S1024x1024, .f32⟩
  | .hbm, ⟨10, _⟩ => ⟨S1024x1024, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x5760, .f32⟩
  | .hbm, ⟨15, _⟩ => ⟨S1024x5760, .bf16⟩
  | .hbm, ⟨16, _⟩ => ⟨S1x1024, .f32⟩
  | .hbm, ⟨17, _⟩ => ⟨S16384x5760, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1152, .bf16⟩
  | .local _ .vmem, ⟨4, _⟩ => ⟨S1024x1152, .bf16⟩
  | .local _ .vmem, ⟨5, _⟩ => ⟨S1024x1152, .f32⟩
  | .local _ .vmem, ⟨6, _⟩ => ⟨S1024x1152, .f32⟩
  | .local _ .vmem, ⟨7, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x4096x1024 : Shape := ⟨3, ![4, 4096, 1024]⟩
abbrev S1024 : Shape := ⟨1, ![1024]⟩
abbrev S1024x5648 : Shape := ⟨2, ![1024, 5648]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5648 : Shape := ⟨3, ![4, 4096, 5648]⟩
abbrev S4x4096x1536 : Shape := ⟨3, ![4, 4096, 1536]⟩
abbrev S4x4096x16 : Shape := ⟨3, ![4, 4096, 16]⟩
abbrev S4x4096x512 : Shape := ⟨3, ![4, 4096, 512]⟩
abbrev S4x4096x112 : Shape := ⟨3, ![4, 4096, 112]⟩
abbrev S4x4096x5760 : Shape := ⟨3, ![4, 4096, 5760]⟩
abbrev S16384x5760 : Shape := ⟨2, ![16384, 5760]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5648, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x5648, .f32⟩
  | .hbm, ⟨20, _⟩ => ⟨S4x4096x1024, .f32⟩
  | .hbm, ⟨21, _⟩ => ⟨S4x4096x1536, .f32⟩
  | .hbm, ⟨22, _⟩ => ⟨S4x4096x16, .f32⟩
  | .hbm, ⟨23, _⟩ => ⟨S4x4096x512, .f32⟩
  | .hbm, ⟨24, _⟩ => ⟨S4x4096x512, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096x112, .f32⟩
  | .hbm, ⟨29, _⟩ => ⟨S4x4096x5760, .f32⟩
  | .hbm, ⟨30, _⟩ => ⟨S16384x5760, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024 : Shape := ⟨1, ![1024]⟩
abbrev S1024x3072 : Shape := ⟨2, ![1024, 3072]⟩
abbrev S16384x1024 : Shape := ⟨2, ![16384, 1024]⟩
abbrev S1x1024 : Shape := ⟨2, ![1, 1024]⟩
abbrev S16384x3072 : Shape := ⟨2, ![16384, 3072]⟩
abbrev S1024x1024 : Shape := ⟨2, ![1024, 1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S1024x3072, .bf16⟩
  | .hbm, ⟨5, _⟩ => ⟨S1x1024, .f32⟩
  | .hbm, ⟨6, _⟩ => ⟨S16384x3072, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4x4096x1024 : Shape := ⟨3, ![4, 4096, 1024]⟩
abbrev S1024 : Shape := ⟨1, ![1024]⟩
abbrev S1024x3072 : Shape := ⟨2, ![1024, 3072]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S16384x3072 : Shape := ⟨2, ![16384, 3072]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3072, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x3072, .f32⟩
  | .hbm, ⟨20, _⟩ => ⟨S16384x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S16384x2048 : Shape := ⟨2, ![16384, 2048]⟩
abbrev S2048x1024 : Shape := ⟨2, ![2048, 1024]⟩
abbrev S4x4096x1024 : Shape := ⟨3, ![4, 4096, 1024]⟩
abbrev S16384x1024 : Shape := ⟨2, ![16384, 1024]⟩
abbrev S512x2048 : Shape := ⟨2, ![512, 2048]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S4x4096x1024, .f32⟩
  | .hbm, ⟨3, _⟩ => ⟨S16384x1024, .f32⟩
  | .hbm, ⟨4, _⟩ => ⟨S2048x1024, .bf16⟩
  | .hbm, ⟨5, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16384x2048 : Shape := ⟨2, ![16384, 2048]⟩
abbrev S2048x1024 : Shape := ⟨2, ![2048, 1024]⟩
abbrev S4x4096x1024 : Shape := ⟨3, ![4, 4096, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S4x4096x1024, .f32⟩
  | .hbm, ⟨3, _⟩ => ⟨S16384x1024, .f32⟩
  | .hbm, ⟨4, _⟩ => ⟨S16384x2048, .f32⟩
  | .hbm, ⟨5, _⟩ => ⟨S16384x1024, .f32⟩
  | .hbm, ⟨6, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4x4096x1024 : Shape := ⟨3, ![4, 4096, 1024]⟩
abbrev S1024x1024 : Shape := ⟨2, ![1024, 1024]⟩
abbrev S16384x1024 : Shape := ⟨2, ![16384, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x4096x1024, .bf16⟩
  | .hbm, ⟨1, _⟩ => ⟨S1024x1024, .f32⟩
  | .hbm, ⟨2, _⟩ => ⟨S4x4096x1024, .f32⟩
  | .hbm, ⟨3, _⟩ => ⟨S16384x1024, .f32⟩
  | .hbm, ⟨4, _⟩ => ⟨S16384x1024, .bf16⟩
  | .hbm, ⟨5, _⟩ => ⟨S1024x1024, .bf16⟩
  | .hbm, ⟨6, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x4096x1024 : Shape := ⟨3, ![4, 4096, 1024]⟩
abbrev S1024x1024 : Shape := ⟨2, ![1024, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S1024x1024, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .hbm, ⟨5, _⟩ => ⟨S4x4096x1024, .f32⟩
  | .hbm, ⟨6, _⟩ => ⟨S16384x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16384x3072 : Shape := ⟨2, ![16384, 3072]⟩
abbrev S64 : Shape := ⟨1, ![64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x64 : Shape := ⟨2, ![1, 64]⟩
abbrev S4x16x4096x64 : Shape := ⟨4, ![4, 16, 4096, 64]⟩
abbrev S256x3072 : Shape := ⟨2, ![256, 3072]⟩
abbrev S256x128 : Shape := ⟨2, ![256, 128]⟩
abbrev S1x16x256x64 : Shape := ⟨4, ![1, 16, 256, 64]⟩
abbrev S256x64 : Shape := ⟨2, ![256, 64]⟩
abbrev S256 : Shape := ⟨1, ![256]⟩
abbrev S256x1 : Shape := ⟨2, ![256, 1]⟩
abbrev S256x32 : Shape := ⟨2, ![256, 32]⟩
abbrev S1x1x256x64 : Shape := ⟨4, ![1, 1, 256, 64]⟩

abbrev nBuf : Space → Nat
  | .hbm => 34
  | .vmem => 14
  | .smem => 0
  | _ => 0

abbrev bufTy : (tb : Table) → Fin (tcTables nBuf tb) → BufTy
  | .hbm, ⟨0, _⟩ => ⟨S16384x3072, .f32⟩
  | .hbm, ⟨1, _⟩ => ⟨S64, .f32⟩
  | .hbm, ⟨2, _⟩ => ⟨S64, .f32⟩
  | .hbm, ⟨3, _⟩ => ⟨S4096, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x64, .f32⟩
  | .hbm, ⟨21, _⟩ => ⟨S1x4096x1x64, .f32⟩
  | .hbm, ⟨22, _⟩ => ⟨S1x4096x2x64, .f32⟩
  | .hbm, ⟨23, _⟩ => ⟨S4096x128, .f32⟩
  | .hbm, ⟨24, _⟩ => ⟨S4096x32, .f32⟩
  | .hbm, ⟨25, _⟩ => ⟨S4096x64, .f32⟩
  | .hbm, ⟨26, _⟩ => ⟨S1x4096x1x64, .f32⟩
  | .hbm, ⟨27, _⟩ => ⟨S1x4096x2x64, .f32⟩
  | .hbm, ⟨28, _⟩ => ⟨S4096x128, .f32⟩
  | .hbm, ⟨29, _⟩ => ⟨S1x64, .f32⟩
  | .hbm, ⟨30, _⟩ => ⟨S1x64, .f32⟩
  | .hbm, ⟨31, _⟩ => ⟨S4x16x4096x64, .f32⟩
  | .hbm, ⟨32, _⟩ => ⟨S4x16x4096x64, .f32⟩
  | .hbm, ⟨33, _⟩ => ⟨S4x16x4096x64, .f32⟩
  | .local _ .vmem, ⟨0, _⟩ => ⟨S256x3072, .f32⟩
  | .local _ .vmem, ⟨1, _⟩ => ⟨S256x3072, .f32⟩
  | .local _ .vmem, ⟨2, _⟩ => ⟨S1x64, .f32⟩
  | .local _ .vmem, ⟨3, _⟩ => ⟨S1x64, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x16x256x64, .f32⟩
  | .local _ .vmem, ⟨9, _⟩ => ⟨S1x16x256x64, .f32⟩
  | .local _ .vmem, ⟨10, _⟩ => ⟨S1x16x256x64, .f32⟩
  | .local _ .vmem, ⟨11, _⟩ => ⟨S1x16x256x64, .f32⟩
  | .local _ .vmem, ⟨12, _⟩ => ⟨S1x16x256x64, .f32⟩
  | .local _ .vmem, ⟨13, _⟩ => ⟨S1x16x256x64, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26_0 : Ref sig .tc := ⟨.hbm, 31, rfl⟩
abbrev main_v26_1 : Ref sig .tc := ⟨.hbm, 32, rfl⟩
abbrev main_v26_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x16x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S16384x3072 : Shape := ⟨2, ![16384, 3072]⟩
abbrev S64 : Shape := ⟨1, ![64]⟩
abbrev S4x4096x3072 : Shape := ⟨3, ![4, 4096, 3072]⟩
abbrev S4x4096x1024 : Shape := ⟨3, ![4, 4096, 1024]⟩
abbrev S4096 : Shape := ⟨1, ![4096]⟩
abbrev S4x4096x16x64 : Shape := ⟨4, ![4, 4096, 16, 64]⟩
abbrev S_ : Shape := ⟨0, ![]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x16x32 : Shape := ⟨4, ![4, 4096, 16, 32]⟩
abbrev S1x4096x1x32 : Shape := ⟨4, ![1, 4096, 1, 32]⟩
abbrev S4x16x4096x64 : Shape := ⟨4, ![4, 16, 4096, 64]⟩

abbrev nBuf : Space → Nat
  | .hbm => 119
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S64, .f32⟩
  | .hbm, ⟨2, _⟩ => ⟨S64, .f32⟩
  | .hbm, ⟨3, _⟩ => ⟨S4x4096x3072, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4096, .i32⟩
  | .hbm, ⟨8, _⟩ => ⟨S4x4096x16x64, .f32⟩
  | .hbm, ⟨9, _⟩ => ⟨S4x4096x16x64, .f32⟩
  | .hbm, ⟨10, _⟩ => ⟨S_, .f32⟩
  | .hbm, ⟨11, _⟩ => ⟨S4x4096x16, .f32⟩
  | .hbm, ⟨12, _⟩ => ⟨S4x4096x16x1, .f32⟩
  | .hbm, ⟨13, _⟩ => ⟨S_, .f32⟩
  | .hbm, ⟨14, _⟩ => ⟨S4x4096x16x1, .f32⟩
  | .hbm, ⟨15, _⟩ => ⟨S4x4096x16x1, .f32⟩
  | .hbm, ⟨16, _⟩ => ⟨S_, .f32⟩
  | .hbm, ⟨17, _⟩ => ⟨S4x4096x16x1, .f32⟩
  | .hbm, ⟨18, _⟩ => ⟨S4x4096x16x1, .f32⟩
  | .hbm, ⟨19, _⟩ => ⟨S4x4096x16x1, .f32⟩
  | .hbm, ⟨20, _⟩ => ⟨S4x4096x16x64, .f32⟩
  | .hbm, ⟨21, _⟩ => ⟨S4x4096x16x64, .f32⟩
  | .hbm, ⟨22, _⟩ => ⟨S1x1x1x64, .f32⟩
  | .hbm, ⟨23, _⟩ => ⟨S4x4096x16x64, .f32⟩
  | .hbm, ⟨24, _⟩ => ⟨S4x4096x16x64, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S4096, .f32⟩
  | .hbm, ⟨34, _⟩ => ⟨S4096x1, .f32⟩
  | .hbm, ⟨35, _⟩ => ⟨S1x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x1x32, .f32⟩
  | .hbm, ⟨41, _⟩ => ⟨S4096x32, .f32⟩
  | .hbm, ⟨42, _⟩ => ⟨S4096x1x32, .f32⟩
  | .hbm, ⟨43, _⟩ => ⟨S4x4096x16x32, .f32⟩
  | .hbm, ⟨44, _⟩ => ⟨S4x4096x16x32, .f32⟩
  | .hbm, ⟨45, _⟩ => ⟨S1x4096x1x32, .f32⟩
  | .hbm, ⟨46, _⟩ => ⟨S4x4096x16x32, .f32⟩
  | .hbm, ⟨47, _⟩ => ⟨S4x4096x16x32, .f32⟩
  | .hbm, ⟨48, _⟩ => ⟨S1x4096x1x32, .f32⟩
  | .hbm, ⟨49, _⟩ => ⟨S4x4096x16x32, .f32⟩
  | .hbm, ⟨50, _⟩ => ⟨S4x4096x16x32, .f32⟩
  | .hbm, ⟨51, _⟩ => ⟨S4x4096x16x32, .f32⟩
  | .hbm, ⟨52, _⟩ => ⟨S1x4096x1x32, .f32⟩
  | .hbm, ⟨53, _⟩ => ⟨S4x4096x16x32, .f32⟩
  | .hbm, ⟨54, _⟩ => ⟨S4x4096x16x32, .f32⟩
  | .hbm, ⟨55, _⟩ => ⟨S1x4096x1x32, .f32⟩
  | .hbm, ⟨56, _⟩ => ⟨S4x4096x16x32, .f32⟩
  | .hbm, ⟨57, _⟩ => ⟨S4x4096x16x32, .f32⟩
  | .hbm, ⟨58, _⟩ => ⟨S4x4096x16x32, .f32⟩
  | .hbm, ⟨59, _⟩ => ⟨S4x4096x16x64, .f32⟩
  | .hbm, ⟨60, _⟩ => ⟨S_, .f32⟩
  | .hbm, ⟨61, _⟩ => ⟨S4x4096x16x64, .f32⟩
  | .hbm, ⟨62, _⟩ => ⟨S4x4096x16x64, .f32⟩
  | .hbm, ⟨63, _⟩ => ⟨S4x4096x16x64, .f32⟩
  | .hbm, ⟨64, _⟩ => ⟨S4x4096x16x64, .f32⟩
  | .hbm, ⟨65, _⟩ => ⟨S_, .f32⟩
  | .hbm, ⟨66, _⟩ => ⟨S4x4096x16, .f32⟩
  | .hbm, ⟨67, _⟩ => ⟨S4x4096x16x1, .f32⟩
  | .hbm, ⟨68, _⟩ => ⟨S_, .f32⟩
  | .hbm, ⟨69, _⟩ => ⟨S4x4096x16x1, .f32⟩
  | .hbm, ⟨70, _⟩ => ⟨S4x4096x16x1, .f32⟩
  | .hbm, ⟨71, _⟩ => ⟨S_, .f32⟩
  | .hbm, ⟨72, _⟩ => ⟨S4x4096x16x1, .f32⟩
  | .hbm, ⟨73, _⟩ => ⟨S4x4096x16x1, .f32⟩
  | .hbm, ⟨74, _⟩ => ⟨S4x4096x16x1, .f32⟩
  | .hbm, ⟨75, _⟩ => ⟨S4x4096x16x64, .f32⟩
  | .hbm, ⟨76, _⟩ => ⟨S4x4096x16x64, .f32⟩
  | .hbm, ⟨77, _⟩ => ⟨S1x1x1x64, .f32⟩
  | .hbm, ⟨78, _⟩ => ⟨S4x4096x16x64, .f32⟩
  | .hbm, ⟨79, _⟩ => ⟨S4x4096x16x64, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S4096, .f32⟩
  | .hbm, ⟨89, _⟩ => ⟨S4096x1, .f32⟩
  | .hbm, ⟨90, _⟩ => ⟨S1x32, .f32⟩
  | .hbm, ⟨91, _⟩ => ⟨S4096x32, .f32⟩
  | .hbm, ⟨92, _⟩ => ⟨S4096x32, .f32⟩
  | .hbm, ⟨93, _⟩ => ⟨S4096x32, .f32⟩
  | .hbm, ⟨94, _⟩ => ⟨S4096x32, .f32⟩
  | .hbm, ⟨95, _⟩ => ⟨S4096x1x32, .f32⟩
  | .hbm, ⟨96, _⟩ => ⟨S4096x32, .f32⟩
  | .hbm, ⟨97, _⟩ => ⟨S4096x1x32, .f32⟩
  | .hbm, ⟨98, _⟩ => ⟨S4x4096x16x32, .f32⟩
  | .hbm, ⟨99, _⟩ => ⟨S4x4096x16x32, .f32⟩
  | .hbm, ⟨100, _⟩ => ⟨S1x4096x1x32, .f32⟩
  | .hbm, ⟨101, _⟩ => ⟨S4x4096x16x32, .f32⟩
  | .hbm, ⟨102, _⟩ => ⟨S4x4096x16x32, .f32⟩
  | .hbm, ⟨103, _⟩ => ⟨S1x4096x1x32, .f32⟩
  | .hbm, ⟨104, _⟩ => ⟨S4x4096x16x32, .f32⟩
  | .hbm, ⟨105, _⟩ => ⟨S4x4096x16x32, .f32⟩
  | .hbm, ⟨106, _⟩ => ⟨S4x4096x16x32, .f32⟩
  | .hbm, ⟨107, _⟩ => ⟨S1x4096x1x32, .f32⟩
  | .hbm, ⟨108, _⟩ => ⟨S4x4096x16x32, .f32⟩
  | .hbm, ⟨109, _⟩ => ⟨S4x4096x16x32, .f32⟩
  | .hbm, ⟨110, _⟩ => ⟨S1x4096x1x32, .f32⟩
  | .hbm, ⟨111, _⟩ => ⟨S4x4096x16x32, .f32⟩
  | .hbm, ⟨112, _⟩ => ⟨S4x4096x16x32, .f32⟩
  | .hbm, ⟨113, _⟩ => ⟨S4x4096x16x32, .f32⟩
  | .hbm, ⟨114, _⟩ => ⟨S4x4096x16x64, .f32⟩
  | .hbm, ⟨115, _⟩ => ⟨S4x4096x16x64, .f32⟩
  | .hbm, ⟨116, _⟩ => ⟨S4x16x4096x64, .f32⟩
  | .hbm, ⟨117, _⟩ => ⟨S4x16x4096x64, .f32⟩
  | .hbm, ⟨118, _⟩ => ⟨S4x16x4096x64, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_cst_6 : Ref sig .tc := ⟨.hbm, 68, rfl⟩
abbrev main_v58 : Ref sig .tc := ⟨.hbm, 69, rfl⟩
abbrev main_v59 : Ref sig .tc := ⟨.hbm, 70, rfl⟩
abbrev main_cst_7 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_8 : Ref sig .tc := ⟨.hbm, 82, rfl⟩
abbrev main_v70 : Ref sig .tc := ⟨.hbm, 83, rfl⟩
abbrev main_v71 : Ref sig .tc := ⟨.hbm, 84, rfl⟩
abbrev main_cst_9 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩

abbrev nD : Nat := 1
abbrev τ : Topo := Topo.v7x

variable {F : FTy → Type} [FloatOps F]
-- ==== Kernel9.lean ====
abbrev S32x8x1024 : Shape := ⟨3, ![32, 8, 1024]⟩
abbrev S4x32x8x256 : Shape := ⟨4, ![4, 32, 8, 256]⟩
abbrev S1024 : Shape := ⟨1, ![1024]⟩
abbrev S1024x1024 : Shape := ⟨2, ![1024, 1024]⟩
abbrev S256x1024 : Shape := ⟨2, ![256, 1024]⟩
abbrev S4x256x256 : Shape := ⟨3, ![4, 256, 256]⟩
abbrev S1x1024 : Shape := ⟨2, ![1, 1024]⟩
abbrev S1x256x256 : Shape := ⟨3, ![1, 256, 256]⟩
abbrev S256 : Shape := ⟨1, ![256]⟩
abbrev S256x1 : Shape := ⟨2, ![256, 1]⟩
abbrev S256x256 : Shape := ⟨2, ![256, 256]⟩

abbrev nBuf : Space → Nat
  | .hbm => 9
  | .vmem => 6
  | .smem => 0
  | _ => 0

abbrev bufTy : (tb : Table) → Fin (tcTables nBuf tb) → BufTy
  | .hbm, ⟨0, _⟩ => ⟨S32x8x1024, .f32⟩
  | .hbm, ⟨1, _⟩ => ⟨S4x32x8x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S4x256x256, .f32⟩
  | .hbm, ⟨7, _⟩ => ⟨S1x1024, .f32⟩
  | .hbm, ⟨8, _⟩ => ⟨S256x1024, .f32⟩
  | .local _ .vmem, ⟨0, _⟩ => ⟨S256x1024, .f32⟩
  | .local _ .vmem, ⟨1, _⟩ => ⟨S1x256x256, .f32⟩
  | .local _ .vmem, ⟨2, _⟩ => ⟨S1x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference9Ideal.lean ====
abbrev S32x8x1024 : Shape := ⟨3, ![32, 8, 1024]⟩
abbrev S4x32x8x256 : Shape := ⟨4, ![4, 32, 8, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S1x32x8x256 : Shape := ⟨4, ![1, 32, 8, 256]⟩
abbrev S32x8x256 : Shape := ⟨3, ![32, 8, 256]⟩

abbrev nBuf : Space → Nat
  | .hbm => 36
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S4x32x8x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S32x8x1024, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S32x8x1, .f32⟩
  | .hbm, ⟨16, _⟩ => ⟨S32x8x1024, .f32⟩
  | .hbm, ⟨17, _⟩ => ⟨S32x8x1024, .f32⟩
  | .hbm, ⟨18, _⟩ => ⟨S1x1x1024, .f32⟩
  | .hbm, ⟨19, _⟩ => ⟨S32x8x1024, .f32⟩
  | .hbm, ⟨20, _⟩ => ⟨S32x8x1024, .f32⟩
  | .hbm, ⟨21, _⟩ => ⟨S32x8x1024, .f32⟩
  | .hbm, ⟨22, _⟩ => ⟨S32x8x1024, .f32⟩
  | .hbm, ⟨23, _⟩ => ⟨S32x8x1024, .f32⟩
  | .hbm, ⟨24, _⟩ => ⟨S_, .f32⟩
  | .hbm, ⟨25, _⟩ => ⟨S32x8x1024, .f32⟩
  | .hbm, ⟨26, _⟩ => ⟨S32x8x1024, .f32⟩
  | .hbm, ⟨27, _⟩ => ⟨S_, .f32⟩
  | .hbm, ⟨28, _⟩ => ⟨S32x8x1024, .f32⟩
  | .hbm, ⟨29, _⟩ => ⟨S32x8x1024, .f32⟩
  | .hbm, ⟨30, _⟩ => ⟨S1x32x8x256, .f32⟩
  | .hbm, ⟨31, _⟩ => ⟨S32x8x256, .f32⟩
  | .hbm, ⟨32, _⟩ => ⟨S32x8x1024, .f32⟩
  | .hbm, ⟨33, _⟩ => ⟨S32x8x1024, .f32⟩
  | .hbm, ⟨34, _⟩ => ⟨S32x8x1024, .f32⟩
  | .hbm, ⟨35, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel10.lean ====
abbrev S256x3072 : Shape := ⟨2, ![256, 3072]⟩
abbrev S64 : Shape := ⟨1, ![64]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x64 : Shape := ⟨2, ![8, 64]⟩
abbrev S1x8x1x64 : Shape := ⟨4, ![1, 8, 1, 64]⟩
abbrev S1x8x2x64 : Shape := ⟨4, ![1, 8, 2, 64]⟩
abbrev S8x128 : Shape := ⟨2, ![8, 128]⟩
abbrev S1x64 : Shape := ⟨2, ![1, 64]⟩
abbrev S32x16x8x64 : Shape := ⟨4, ![32, 16, 8, 64]⟩
abbrev S8x3072 : Shape := ⟨2, ![8, 3072]⟩
abbrev S1x16x8x64 : Shape := ⟨4, ![1, 16, 8, 64]⟩
abbrev S1x1x8x64 : Shape := ⟨4, ![1, 1, 8, 64]⟩

abbrev nBuf : Space → Nat
  | .hbm => 37
  | .vmem => 12
  | .smem => 0
  | _ => 0

abbrev bufTy : (tb : Table) → Fin (tcTables nBuf tb) → BufTy
  | .hbm, ⟨0, _⟩ => ⟨S256x3072, .f32⟩
  | .hbm, ⟨1, _⟩ => ⟨S64, .f32⟩
  | .hbm, ⟨2, _⟩ => ⟨S64, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8, .f32⟩
  | .hbm, ⟨16, _⟩ => ⟨S8x1, .f32⟩
  | .hbm, ⟨17, _⟩ => ⟨S1x32, .f32⟩
  | .hbm, ⟨18, _⟩ => ⟨S8x32, .f32⟩
  | .hbm, ⟨19, _⟩ => ⟨S8x32, .f32⟩
  | .hbm, ⟨20, _⟩ => ⟨S8x32, .f32⟩
  | .hbm, ⟨21, _⟩ => ⟨S8x32, .f32⟩
  | .hbm, ⟨22, _⟩ => ⟨S8x32, .f32⟩
  | .hbm, ⟨23, _⟩ => ⟨S8x64, .f32⟩
  | .hbm, ⟨24, _⟩ => ⟨S1x8x1x64, .f32⟩
  | .hbm, ⟨25, _⟩ => ⟨S1x8x2x64, .f32⟩
  | .hbm, ⟨26, _⟩ => ⟨S8x128, .f32⟩
  | .hbm, ⟨27, _⟩ => ⟨S8x32, .f32⟩
  | .hbm, ⟨28, _⟩ => ⟨S8x64, .f32⟩
  | .hbm, ⟨29, _⟩ => ⟨S1x8x1x64, .f32⟩
  | .hbm, ⟨30, _⟩ => ⟨S1x8x2x64, .f32⟩
  | .hbm, ⟨31, _⟩ => ⟨S8x128, .f32⟩
  | .hbm, ⟨32, _⟩ => ⟨S1x64, .f32⟩
  | .hbm, ⟨33, _⟩ => ⟨S1x64, .f32⟩
  | .hbm, ⟨34, _⟩ => ⟨S32x16x8x64, .f32⟩
  | .hbm, ⟨35, _⟩ => ⟨S32x16x8x64, .f32⟩
  | .hbm, ⟨36, _⟩ => ⟨S32x16x8x64, .f32⟩
  | .local _ .vmem, ⟨0, _⟩ => ⟨S8x3072, .f32⟩
  | .local _ .vmem, ⟨1, _⟩ => ⟨S8x3072, .f32⟩
  | .local _ .vmem, ⟨2, _⟩ => ⟨S1x64, .f32⟩
  | .local _ .vmem, ⟨3, _⟩ => ⟨S1x64, .f32⟩
  | .local _ .vmem, ⟨4, _⟩ => ⟨S8x128, .f32⟩
  | .local _ .vmem, ⟨5, _⟩ => ⟨S8x128, .f32⟩
  | .local _ .vmem, ⟨6, _⟩ => ⟨S1x16x8x64, .f32⟩
  | .local _ .vmem, ⟨7, _⟩ => ⟨S1x16x8x64, .f32⟩
  | .local _ .vmem, ⟨8, _⟩ => ⟨S1x16x8x64, .f32⟩
  | .local _ .vmem, ⟨9, _⟩ => ⟨S1x16x8x64, .f32⟩
  | .local _ .vmem, ⟨10, _⟩ => ⟨S1x16x8x64, .f32⟩
  | .local _ .vmem, ⟨11, _⟩ => ⟨S1x16x8x64, .f32⟩
  | _, _ => ⟨S256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28_0 : Ref sig .tc := ⟨.hbm, 34, rfl⟩
abbrev main_v28_1 : Ref sig .tc := ⟨.hbm, 35, rfl⟩
abbrev main_v28_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S8x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference10Ideal.lean ====
abbrev S256x3072 : Shape := ⟨2, ![256, 3072]⟩
abbrev S64 : Shape := ⟨1, ![64]⟩
abbrev S32x8x3072 : Shape := ⟨3, ![32, 8, 3072]⟩
abbrev S32x8x1024 : Shape := ⟨3, ![32, 8, 1024]⟩
abbrev S8 : Shape := ⟨1, ![8]⟩
abbrev S_ : Shape := ⟨0, ![]⟩
abbrev S32x8x16x64 : Shape := ⟨4, ![32, 8, 16, 64]⟩
abbrev S32x8x16 : Shape := ⟨3, ![32, 8, 16]⟩
abbrev S32x8x16x1 : Shape := ⟨4, ![32, 8, 16, 1]⟩
abbrev S1x1x1x64 : Shape := ⟨4, ![1, 1, 1, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x1x32 : Shape := ⟨3, ![8, 1, 32]⟩
abbrev S32x8x16x32 : Shape := ⟨4, ![32, 8, 16, 32]⟩
abbrev S1x8x1x32 : Shape := ⟨4, ![1, 8, 1, 32]⟩
abbrev S32x16x8x64 : Shape := ⟨4, ![32, 16, 8, 64]⟩

abbrev nBuf : Space → Nat
  | .hbm => 122
  | .vmem => 0
  | .smem => 0
  | _ => 0

abbrev bufTy : (tb : Table) → Fin (tcTables nBuf tb) → BufTy
  | .hbm, ⟨0, _⟩ => ⟨S256x3072, .f32⟩
  | .hbm, ⟨1, _⟩ => ⟨S64, .f32⟩
  | .hbm, ⟨2, _⟩ => ⟨S64, .f32⟩
  | .hbm, ⟨3, _⟩ => ⟨S32x8x3072, .f32⟩
  | .hbm, ⟨4, _⟩ => ⟨S32x8x1024, .f32⟩
  | .hbm, ⟨5, _⟩ => ⟨S32x8x1024, .f32⟩
  | .hbm, ⟨6, _⟩ => ⟨S32x8x1024, .f32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S32x8x16x64, .f32⟩
  | .hbm, ⟨12, _⟩ => ⟨S32x8x16x64, .f32⟩
  | .hbm, ⟨13, _⟩ => ⟨S_, .f32⟩
  | .hbm, ⟨14, _⟩ => ⟨S32x8x16, .f32⟩
  | .hbm, ⟨15, _⟩ => ⟨S32x8x16x1, .f32⟩
  | .hbm, ⟨16, _⟩ => ⟨S_, .f32⟩
  | .hbm, ⟨17, _⟩ => ⟨S32x8x16x1, .f32⟩
  | .hbm, ⟨18, _⟩ => ⟨S32x8x16x1, .f32⟩
  | .hbm, ⟨19, _⟩ => ⟨S_, .f32⟩
  | .hbm, ⟨20, _⟩ => ⟨S32x8x16x1, .f32⟩
  | .hbm, ⟨21, _⟩ => ⟨S32x8x16x1, .f32⟩
  | .hbm, ⟨22, _⟩ => ⟨S32x8x16x1, .f32⟩
  | .hbm, ⟨23, _⟩ => ⟨S32x8x16x64, .f32⟩
  | .hbm, ⟨24, _⟩ => ⟨S32x8x16x64, .f32⟩
  | .hbm, ⟨25, _⟩ => ⟨S1x1x1x64, .f32⟩
  | .hbm, ⟨26, _⟩ => ⟨S32x8x16x64, .f32⟩
  | .hbm, ⟨27, _⟩ => ⟨S32x8x16x64, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S8, .f32⟩
  | .hbm, ⟨37, _⟩ => ⟨S8x1, .f32⟩
  | .hbm, ⟨38, _⟩ => ⟨S1x32, .f32⟩
  | .hbm, ⟨39, _⟩ => ⟨S8x32, .f32⟩
  | .hbm, ⟨40, _⟩ => ⟨S8x32, .f32⟩
  | .hbm, ⟨41, _⟩ => ⟨S8x32, .f32⟩
  | .hbm, ⟨42, _⟩ => ⟨S8x32, .f32⟩
  | .hbm, ⟨43, _⟩ => ⟨S8x1x32, .f32⟩
  | .hbm, ⟨44, _⟩ => ⟨S8x32, .f32⟩
  | .hbm, ⟨45, _⟩ => ⟨S8x1x32, .f32⟩
  | .hbm, ⟨46, _⟩ => ⟨S32x8x16x32, .f32⟩
  | .hbm, ⟨47, _⟩ => ⟨S32x8x16x32, .f32⟩
  | .hbm, ⟨48, _⟩ => ⟨S1x8x1x32, .f32⟩
  | .hbm, ⟨49, _⟩ => ⟨S32x8x16x32, .f32⟩
  | .hbm, ⟨50, _⟩ => ⟨S32x8x16x32, .f32⟩
  | .hbm, ⟨51, _⟩ => ⟨S1x8x1x32, .f32⟩
  | .hbm, ⟨52, _⟩ => ⟨S32x8x16x32, .f32⟩
  | .hbm, ⟨53, _⟩ => ⟨S32x8x16x32, .f32⟩
  | .hbm, ⟨54, _⟩ => ⟨S32x8x16x32, .f32⟩
  | .hbm, ⟨55, _⟩ => ⟨S1x8x1x32, .f32⟩
  | .hbm, ⟨56, _⟩ => ⟨S32x8x16x32, .f32⟩
  | .hbm, ⟨57, _⟩ => ⟨S32x8x16x32, .f32⟩
  | .hbm, ⟨58, _⟩ => ⟨S1x8x1x32, .f32⟩
  | .hbm, ⟨59, _⟩ => ⟨S32x8x16x32, .f32⟩
  | .hbm, ⟨60, _⟩ => ⟨S32x8x16x32, .f32⟩
  | .hbm, ⟨61, _⟩ => ⟨S32x8x16x32, .f32⟩
  | .hbm, ⟨62, _⟩ => ⟨S32x8x16x64, .f32⟩
  | .hbm, ⟨63, _⟩ => ⟨S_, .f32⟩
  | .hbm, ⟨64, _⟩ => ⟨S32x8x16x64, .f32⟩
  | .hbm, ⟨65, _⟩ => ⟨S32x8x16x64, .f32⟩
  | .hbm, ⟨66, _⟩ => ⟨S32x8x16x64, .f32⟩
  | .hbm, ⟨67, _⟩ => ⟨S32x8x16x64, .f32⟩
  | .hbm, ⟨68, _⟩ => ⟨S_, .f32⟩
  | .hbm, ⟨69, _⟩ => ⟨S32x8x16, .f32⟩
  | .hbm, ⟨70, _⟩ => ⟨S32x8x16x1, .f32⟩
  | .hbm, ⟨71, _⟩ => ⟨S_, .f32⟩
  | .hbm, ⟨72, _⟩ => ⟨S32x8x16x1, .f32⟩
  | .hbm, ⟨73, _⟩ => ⟨S32x8x16x1, .f32⟩
  | .hbm, ⟨74, _⟩ => ⟨S_, .f32⟩
  | .hbm, ⟨75, _⟩ => ⟨S32x8x16x1, .f32⟩
  | .hbm, ⟨76, _⟩ => ⟨S32x8x16x1, .f32⟩
  | .hbm, ⟨77, _⟩ => ⟨S32x8x16x1, .f32⟩
  | .hbm, ⟨78, _⟩ => ⟨S32x8x16x64, .f32⟩
  | .hbm, ⟨79, _⟩ => ⟨S32x8x16x64, .f32⟩
  | .hbm, ⟨80, _⟩ => ⟨S1x1x1x64, .f32⟩
  | .hbm, ⟨81, _⟩ => ⟨S32x8x16x64, .f32⟩
  | .hbm, ⟨82, _⟩ => ⟨S32x8x16x64, .f32⟩
  | .hbm, ⟨83, _⟩ => ⟨S32, .f32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S_, .f32⟩
  | .hbm, ⟨89, _⟩ => ⟨S32, .f32⟩
  | .hbm, ⟨90, _⟩ => ⟨S32, .f32⟩
  | .hbm, ⟨91, _⟩ => ⟨S8, .f32⟩
  | .hbm, ⟨92, _⟩ => ⟨S8x1, .f32⟩
  | .hbm, ⟨93, _⟩ => ⟨S1x32, .f32⟩
  | .hbm, ⟨94, _⟩ => ⟨S8x32, .f32⟩
  | .hbm, ⟨95, _⟩ => ⟨S8x32, .f32⟩
  | .hbm, ⟨96, _⟩ => ⟨S8x32, .f32⟩
  | .hbm, ⟨97, _⟩ => ⟨S8x32, .f32⟩
  | .hbm, ⟨98, _⟩ => ⟨S8x1x32, .f32⟩
  | .hbm, ⟨99, _⟩ => ⟨S8x32, .f32⟩
  | .hbm, ⟨100, _⟩ => ⟨S8x1x32, .f32⟩
  | .hbm, ⟨101, _⟩ => ⟨S32x8x16x32, .f32⟩
  | .hbm, ⟨102, _⟩ => ⟨S32x8x16x32, .f32⟩
  | .hbm, ⟨103, _⟩ => ⟨S1x8x1x32, .f32⟩
  | .hbm, ⟨104, _⟩ => ⟨S32x8x16x32, .f32⟩
  | .hbm, ⟨105, _⟩ => ⟨S32x8x16x32, .f32⟩
  | .hbm, ⟨106, _⟩ => ⟨S1x8x1x32, .f32⟩
  | .hbm, ⟨107, _⟩ => ⟨S32x8x16x32, .f32⟩
  | .hbm, ⟨108, _⟩ => ⟨S32x8x16x32, .f32⟩
  | .hbm, ⟨109, _⟩ => ⟨S32x8x16x32, .f32⟩
  | .hbm, ⟨110, _⟩ => ⟨S1x8x1x32, .f32⟩
  | .hbm, ⟨111, _⟩ => ⟨S32x8x16x32, .f32⟩
  | .hbm, ⟨112, _⟩ => ⟨S32x8x16x32, .f32⟩
  | .hbm, ⟨113, _⟩ => ⟨S1x8x1x32, .f32⟩
  | .hbm, ⟨114, _⟩ => ⟨S32x8x16x32, .f32⟩
  | .hbm, ⟨115, _⟩ => ⟨S32x8x16x32, .f32⟩
  | .hbm, ⟨116, _⟩ => ⟨S32x8x16x32, .f32⟩
  | .hbm, ⟨117, _⟩ => ⟨S32x8x16x64, .f32⟩
  | .hbm, ⟨118, _⟩ => ⟨S32x8x16x64, .f32⟩
  | .hbm, ⟨119, _⟩ => ⟨S32x16x8x64, .f32⟩
  | .hbm, ⟨120, _⟩ => ⟨S32x16x8x64, .f32⟩
  | .hbm, ⟨121, _⟩ => ⟨S32x16x8x64, .f32⟩
  | _, _ => ⟨S256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_8 : Ref sig .tc := ⟨.hbm, 85, rfl⟩
abbrev main_v72 : Ref sig .tc := ⟨.hbm, 86, rfl⟩
abbrev main_v73 : Ref sig .tc := ⟨.hbm, 87, rfl⟩
abbrev main_cst_9 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩

abbrev nD : Nat := 1
abbrev τ : Topo := Topo.v7x

variable {F : FTy → Type} [FloatOps F]
-- ==== Kernel11.lean ====
abbrev S32x8x1024 : Shape := ⟨3, ![32, 8, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1x1024x1408 : Shape := ⟨3, ![1, 1024, 1408]⟩
abbrev S1x1408x1024 : Shape := ⟨3, ![1, 1408, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 11
  | .vmem => 11
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S256x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1x1024x1408, .f32⟩
  | .local _ .vmem, ⟨3, _⟩ => ⟨S1x1024x1408, .f32⟩
  | .local _ .vmem, ⟨4, _⟩ => ⟨S1x1024x1408, .f32⟩
  | .local _ .vmem, ⟨5, _⟩ => ⟨S1x1024x1408, .f32⟩
  | .local _ .vmem, ⟨6, _⟩ => ⟨S1x1408x1024, .f32⟩
  | .local _ .vmem, ⟨7, _⟩ => ⟨S1x1408x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg1 : BitVec 32 := BitVec.ofNat 32 (i 1).val
  let c0_i32_18 : BitVec 32 := 0#32
  let v23 : BitVec 1 := Scalar.cmpi .eq arg1 c0_i32_18
  let arg2 : BitVec 32 := BitVec.ofNat 32 (i 2).val
  let c1_i32 : BitVec 32 := 1#32
  let v24 : BitVec 1 := Scalar.cmpi .eq arg2 c1_i32
  let v25 : BitVec 1 := Scalar.andi v23 v24
  let v26 : BitVec 32 := Scalar.extui v25
  let c0_i32_19 : BitVec 32 := 0#32
  let v27 : BitVec 1 := Scalar.cmpi .ne v26 c0_i32_19
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]
-- ==== Reference11Ideal.lean ====
abbrev S32x8x1024 : Shape := ⟨3, ![32, 8, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x2816 : Shape := ⟨3, ![32, 8, 2816]⟩
abbrev S256x1024 : Shape := ⟨2, ![256, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32x8x1024, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S32x8x1, .f32⟩
  | .hbm, ⟨16, _⟩ => ⟨S32x8x1024, .f32⟩
  | .hbm, ⟨17, _⟩ => ⟨S32x8x1024, .f32⟩
  | .hbm, ⟨18, _⟩ => ⟨S1x1x1024, .f32⟩
  | .hbm, ⟨19, _⟩ => ⟨S32x8x1024, .f32⟩
  | .hbm, ⟨20, _⟩ => ⟨S32x8x1024, .f32⟩
  | .hbm, ⟨21, _⟩ => ⟨S32x8x2816, .f32⟩
  | .hbm, ⟨22, _⟩ => ⟨S32x8x2816, .f32⟩
  | .hbm, ⟨23, _⟩ => ⟨S32x8x2816, .f32⟩
  | .hbm, ⟨24, _⟩ => ⟨S_, .f32⟩
  | .hbm, ⟨25, _⟩ => ⟨S32x8x2816, .f32⟩
  | .hbm, ⟨26, _⟩ => ⟨S32x8x2816, .f32⟩
  | .hbm, ⟨27, _⟩ => ⟨S_, .f32⟩
  | .hbm, ⟨28, _⟩ => ⟨S32x8x2816, .f32⟩
  | .hbm, ⟨29, _⟩ => ⟨S32x8x2816, .f32⟩
  | .hbm, ⟨30, _⟩ => ⟨S32x8x2816, .f32⟩
  | .hbm, ⟨31, _⟩ => ⟨S32x8x2816, .f32⟩
  | .hbm, ⟨32, _⟩ => ⟨S32x8x2816, .f32⟩
  | .hbm, ⟨33, _⟩ => ⟨S32x8x1024, .f32⟩
  | .hbm, ⟨34, _⟩ => ⟨S32x8x1024, .f32⟩
  | .hbm, ⟨35, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel12.lean ====
abbrev S32x8x1024 : Shape := ⟨3, ![32, 8, 1024]⟩
abbrev S1024 : Shape := ⟨1, ![1024]⟩
abbrev S1024x5648 : Shape := ⟨2, ![1024, 5648]⟩
abbrev S256x1024 : Shape := ⟨2, ![256, 1024]⟩
abbrev S1024x1024 : Shape := ⟨2, ![1024, 1024]⟩
abbrev S1024x1536 : Shape := ⟨2, ![1024, 1536]⟩
abbrev S1024x16 : Shape := ⟨2, ![1024, 16]⟩
abbrev S1024x512 : Shape := ⟨2, ![1024, 512]⟩
abbrev S_ : Shape := ⟨0, ![]⟩
abbrev S1024x128 : Shape := ⟨2, ![1024, 128]⟩
abbrev S1024x5760 : Shape := ⟨2, ![1024, 5760]⟩
abbrev S1x1024 : Shape := ⟨2, ![1, 1024]⟩
abbrev S256x5760 : Shape := ⟨2, ![256, 5760]⟩
abbrev S1024x1152 : Shape := ⟨2, ![1024, 1152]⟩
abbrev S256x1152 : Shape := ⟨2, ![256, 1152]⟩
abbrev S256 : Shape := ⟨1, ![256]⟩
abbrev S256x1 : Shape := ⟨2, ![256, 1]⟩

abbrev nBuf : Space → Nat
  | .hbm => 17
  | .vmem => 7
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x5648, .f32⟩
  | .hbm, ⟨3, _⟩ => ⟨S256x1024, .f32⟩
  | .hbm, ⟨4, _⟩ => ⟨S1024x1024, .f32⟩
  | .hbm, ⟨5, _⟩ => ⟨S1024x1536, .f32⟩
  | .hbm, ⟨6, _⟩ => ⟨S1024x16, .f32⟩
  | .hbm, ⟨7, _⟩ => ⟨S1024x512, .f32⟩
  | .hbm, ⟨8, _⟩ => ⟨S1024x512, .f32⟩
  | .hbm, ⟨9, _⟩ => ⟨S1024x1024, .f32⟩
  | .hbm, ⟨10, _⟩ => ⟨S1024x1024, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x5760, .f32⟩
  | .hbm, ⟨15, _⟩ => ⟨S1x1024, .f32⟩
  | .hbm, ⟨16, _⟩ => ⟨S256x5760, .f32⟩
  | .local _ .vmem, ⟨0, _⟩ => ⟨S256x1024, .f32⟩
  | .local _ .vmem, ⟨1, _⟩ => ⟨S1x1024, .f32⟩
  | .local _ .vmem, ⟨2, _⟩ => ⟨S1024x1152, .f32⟩
  | .local _ .vmem, ⟨3, _⟩ => ⟨S1024x1152, .f32⟩
  | .local _ .vmem, ⟨4, _⟩ => ⟨S256x1152, .f32⟩
  | .local _ .vmem, ⟨5, _⟩ => ⟨S256x1152, .f32⟩
  | .local _ .vmem, ⟨6, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S32x8x1024 : Shape := ⟨3, ![32, 8, 1024]⟩
abbrev S1024 : Shape := ⟨1, ![1024]⟩
abbrev S1024x5648 : Shape := ⟨2, ![1024, 5648]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x5648 : Shape := ⟨3, ![32, 8, 5648]⟩
abbrev S32x8x1536 : Shape := ⟨3, ![32, 8, 1536]⟩
abbrev S32x8x16 : Shape := ⟨3, ![32, 8, 16]⟩
abbrev S32x8x512 : Shape := ⟨3, ![32, 8, 512]⟩
abbrev S32x8x112 : Shape := ⟨3, ![32, 8, 112]⟩
abbrev S32x8x5760 : Shape := ⟨3, ![32, 8, 5760]⟩
abbrev S256x5760 : Shape := ⟨2, ![256, 5760]⟩

abbrev nBuf : Space → Nat
  | .hbm => 31
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x5648, .f32⟩
  | .hbm, ⟨3, _⟩ => ⟨S32x8x1024, .f32⟩
  | .hbm, ⟨4, _⟩ => ⟨S_, .f32⟩
  | .hbm, ⟨5, _⟩ => ⟨S32x8, .f32⟩
  | .hbm, ⟨6, _⟩ => ⟨S32x8x1, .f32⟩
  | .hbm, ⟨7, _⟩ => ⟨S_, .f32⟩
  | .hbm, ⟨8, _⟩ => ⟨S32x8x1, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S32x8x1, .f32⟩
  | .hbm, ⟨14, _⟩ => ⟨S32x8x1024, .f32⟩
  | .hbm, ⟨15, _⟩ => ⟨S32x8x1024, .f32⟩
  | .hbm, ⟨16, _⟩ => ⟨S1x1x1024, .f32⟩
  | .hbm, ⟨17, _⟩ => ⟨S32x8x1024, .f32⟩
  | .hbm, ⟨18, _⟩ => ⟨S32x8x1024, .f32⟩
  | .hbm, ⟨19, _⟩ => ⟨S32x8x5648, .f32⟩
  | .hbm, ⟨20, _⟩ => ⟨S32x8x1024, .f32⟩
  | .hbm, ⟨21, _⟩ => ⟨S32x8x1536, .f32⟩
  | .hbm, ⟨22, _⟩ => ⟨S32x8x16, .f32⟩
  | .hbm, ⟨23, _⟩ => ⟨S32x8x512, .f32⟩
  | .hbm, ⟨24, _⟩ => ⟨S32x8x512, .f32⟩
  | .hbm, ⟨25, _⟩ => ⟨S32x8x1024, .f32⟩
  | .hbm, ⟨26, _⟩ => ⟨S32x8x1024, .f32⟩
  | .hbm, ⟨27, _⟩ => ⟨S_, .f32⟩
  | .hbm, ⟨28, _⟩ => ⟨S32x8x112, .f32⟩
  | .hbm, ⟨29, _⟩ => ⟨S32x8x5760, .f32⟩
  | .hbm, ⟨30, _⟩ => ⟨S256x5760, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel13.lean ====
abbrev S32x8x1024 : Shape := ⟨3, ![32, 8, 1024]⟩
abbrev S1024 : Shape := ⟨1, ![1024]⟩
abbrev S1024x3072 : Shape := ⟨2, ![1024, 3072]⟩
abbrev S256x1024 : Shape := ⟨2, ![256, 1024]⟩
abbrev S1x1024 : Shape := ⟨2, ![1, 1024]⟩
abbrev S256x3072 : Shape := ⟨2, ![256, 3072]⟩
abbrev S1024x1024 : Shape := ⟨2, ![1024, 1024]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x3072, .f32⟩
  | .hbm, ⟨3, _⟩ => ⟨S256x1024, .f32⟩
  | .hbm, ⟨4, _⟩ => ⟨S1x1024, .f32⟩
  | .hbm, ⟨5, _⟩ => ⟨S256x3072, .f32⟩
  | .local _ .vmem, ⟨0, _⟩ => ⟨S256x1024, .f32⟩
  | .local _ .vmem, ⟨1, _⟩ => ⟨S1x1024, .f32⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S32x8x1024 : Shape := ⟨3, ![32, 8, 1024]⟩
abbrev S1024 : Shape := ⟨1, ![1024]⟩
abbrev S1024x3072 : Shape := ⟨2, ![1024, 3072]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x3072 : Shape := ⟨3, ![32, 8, 3072]⟩
abbrev S256x3072 : Shape := ⟨2, ![256, 3072]⟩

abbrev nBuf : Space → Nat
  | .hbm => 21
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x3072, .f32⟩
  | .hbm, ⟨3, _⟩ => ⟨S32x8x1024, .f32⟩
  | .hbm, ⟨4, _⟩ => ⟨S_, .f32⟩
  | .hbm, ⟨5, _⟩ => ⟨S32x8, .f32⟩
  | .hbm, ⟨6, _⟩ => ⟨S32x8x1, .f32⟩
  | .hbm, ⟨7, _⟩ => ⟨S_, .f32⟩
  | .hbm, ⟨8, _⟩ => ⟨S32x8x1, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S32x8x1, .f32⟩
  | .hbm, ⟨14, _⟩ => ⟨S32x8x1024, .f32⟩
  | .hbm, ⟨15, _⟩ => ⟨S32x8x1024, .f32⟩
  | .hbm, ⟨16, _⟩ => ⟨S1x1x1024, .f32⟩
  | .hbm, ⟨17, _⟩ => ⟨S32x8x1024, .f32⟩
  | .hbm, ⟨18, _⟩ => ⟨S32x8x1024, .f32⟩
  | .hbm, ⟨19, _⟩ => ⟨S32x8x3072, .f32⟩
  | .hbm, ⟨20, _⟩ => ⟨S256x3072, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel14.lean ====
abbrev S256x2048 : Shape := ⟨2, ![256, 2048]⟩
abbrev S2048x1024 : Shape := ⟨2, ![2048, 1024]⟩
abbrev S32x8x1024 : Shape := ⟨3, ![32, 8, 1024]⟩
abbrev S256x1024 : Shape := ⟨2, ![256, 1024]⟩

abbrev nBuf : Space → Nat
  | .hbm => 5
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S2048x1024, .f32⟩
  | .hbm, ⟨2, _⟩ => ⟨S32x8x1024, .f32⟩
  | .hbm, ⟨3, _⟩ => ⟨S256x1024, .f32⟩
  | .hbm, ⟨4, _⟩ => ⟨S256x1024, .f32⟩
  | .local _ .vmem, ⟨0, _⟩ => ⟨S256x2048, .f32⟩
  | .local _ .vmem, ⟨1, _⟩ => ⟨S2048x1024, .f32⟩
  | .local _ .vmem, ⟨2, _⟩ => ⟨S256x1024, .f32⟩
  | .local _ .vmem, ⟨3, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference14Ideal.lean ====
abbrev S256x2048 : Shape := ⟨2, ![256, 2048]⟩
abbrev S2048x1024 : Shape := ⟨2, ![2048, 1024]⟩
abbrev S32x8x1024 : Shape := ⟨3, ![32, 8, 1024]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x1024, .f32⟩
  | .hbm, ⟨2, _⟩ => ⟨S32x8x1024, .f32⟩
  | .hbm, ⟨3, _⟩ => ⟨S256x1024, .f32⟩
  | .hbm, ⟨4, _⟩ => ⟨S256x1024, .f32⟩
  | .hbm, ⟨5, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S32x8x1024 : Shape := ⟨3, ![32, 8, 1024]⟩
abbrev S1024x1024 : Shape := ⟨2, ![1024, 1024]⟩
abbrev S256x1024 : Shape := ⟨2, ![256, 1024]⟩

abbrev nBuf : Space → Nat
  | .hbm => 6
  | .vmem => 4
  | .smem => 0
  | _ => 0

abbrev bufTy : (tb : Table) → Fin (tcTables nBuf tb) → BufTy
  | .hbm, ⟨0, _⟩ => ⟨S32x8x1024, .f32⟩
  | .hbm, ⟨1, _⟩ => ⟨S1024x1024, .f32⟩
  | .hbm, ⟨2, _⟩ => ⟨S32x8x1024, .f32⟩
  | .hbm, ⟨3, _⟩ => ⟨S256x1024, .f32⟩
  | .hbm, ⟨4, _⟩ => ⟨S256x1024, .f32⟩
  | .hbm, ⟨5, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S256x1024, .f32⟩
  | .local _ .vmem, ⟨3, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference15Ideal.lean ====
abbrev S32x8x1024 : Shape := ⟨3, ![32, 8, 1024]⟩
abbrev S1024x1024 : Shape := ⟨2, ![1024, 1024]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024x1024, .f32⟩
  | .hbm, ⟨2, _⟩ => ⟨S32x8x1024, .f32⟩
  | .hbm, ⟨3, _⟩ => ⟨S32x8x1024, .f32⟩
  | .hbm, ⟨4, _⟩ => ⟨S32x8x1024, .f32⟩
  | .hbm, ⟨5, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S2x2560x16x128x64 : Shape := ⟨5, ![2, 2560, 16, 128, 64]⟩
abbrev S2x2560x16x64x128 : Shape := ⟨5, ![2, 2560, 16, 64, 128]⟩
abbrev S2x2560x1024 : Shape := ⟨3, ![2, 2560, 1024]⟩
abbrev S1x16x16x64x128 : Shape := ⟨5, ![1, 16, 16, 64, 128]⟩
abbrev S1x16x1024 : Shape := ⟨3, ![1, 16, 1024]⟩
abbrev S64x128 : Shape := ⟨2, ![64, 128]⟩
abbrev S1x1x1x64x128 : Shape := ⟨5, ![1, 1, 1, 64, 128]⟩
abbrev S64 : Shape := ⟨1, ![64]⟩
abbrev S64x1 : Shape := ⟨2, ![64, 1]⟩
abbrev S128 : Shape := ⟨1, ![128]⟩
abbrev S1x128 : Shape := ⟨2, ![1, 128]⟩
abbrev S1x1x128 : Shape := ⟨3, ![1, 1, 128]⟩

abbrev nBuf : Space → Nat
  | .hbm => 3
  | .vmem => 4
  | .smem => 0
  | _ => 0

abbrev bufTy : (tb : Table) → Fin (tcTables nBuf tb) → BufTy
  | .hbm, ⟨0, _⟩ => ⟨S2x2560x16x128x64, .f32⟩
  | .hbm, ⟨1, _⟩ => ⟨S2x2560x16x64x128, .f32⟩
  | .hbm, ⟨2, _⟩ => ⟨S2x2560x1024, .f32⟩
  | .local _ .vmem, ⟨0, _⟩ => ⟨S1x16x16x64x128, .f32⟩
  | .local _ .vmem, ⟨1, _⟩ => ⟨S1x16x16x64x128, .f32⟩
  | .local _ .vmem, ⟨2, _⟩ => ⟨S1x16x1024, .f32⟩
  | .local _ .vmem, ⟨3, _⟩ => ⟨S1x16x1024, .f32⟩
  | _, _ => ⟨S2x2560x16x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 160], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x16x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference16Ideal.lean ====
abbrev S2x2560x16x128x64 : Shape := ⟨5, ![2, 2560, 16, 128, 64]⟩
abbrev S_ : Shape := ⟨0, ![]⟩
abbrev S2x2560x16x64 : Shape := ⟨4, ![2, 2560, 16, 64]⟩
abbrev S2x2560x1024 : Shape := ⟨3, ![2, 2560, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2560x16x128x64, .f32⟩
  | .hbm, ⟨1, _⟩ => ⟨S_, .f32⟩
  | .hbm, ⟨2, _⟩ => ⟨S2x2560x16x64, .f32⟩
  | .hbm, ⟨3, _⟩ => ⟨S_, .f32⟩
  | .hbm, ⟨4, _⟩ => ⟨S2x2560x16x64, .f32⟩
  | .hbm, ⟨5, _⟩ => ⟨S2x2560x16x64, .f32⟩
  | .hbm, ⟨6, _⟩ => ⟨S2x2560x1024, .f32⟩
  | _, _ => ⟨S2x2560x16x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Tokens.lean ====
/- The tokens of the batch: four sequences of 4096 positions, worked through as 16384 rows. Row `r` is position
   `r % 4096` of sequence `r / 4096`. This module reads an array [B, S, D] flattened to rows, and states the few facts about
   whole blocks, blocks of rows and tiles of columns which the programs of this directory share. -/
module

public import Idealize.ShloMosaic.Lib.Pipeline.Value
public import Idealize.ShloMosaic.Lib.Pointwise

@[expose] public section

noncomputable section

namespace Cert.Proof.Tokens

open Idealize.ShloMosaic

/-- The offsets of a load or a store that takes a whole two-axis block are zero. -/
theorem off2 : (![0, 0] : Fin 2 → Nat) = fun _ => 0 := funext fun a => by fin_cases a <;> rfl

/-- The offsets of a load or a store that takes a whole three-axis block are zero. -/
theorem off3 : (![0, 0, 0] : Fin 3 → Nat) = fun _ => 0 := funext fun a => by fin_cases a <;> rfl

/-- An array [B, S, D] flattened to rows holds at (r, d) the element at place `s` of sequence `b`, where `r` is their row. -/
theorem flat_of {B S N D : ℕ} {α : Type} (y : Shape.Idx ⟨3, ![B, S, D]⟩ → α) (h : Shape.ShapeCasts ⟨3, ![B, S, D]⟩ ⟨2, ![N, D]⟩)
    (b : Fin B) (s : Fin S) (r : Fin N) (e : b.val * S + s.val = r.val) (d : Fin D) :
    shapeCast ⟨2, ![N, D]⟩ y h (ix2 r d) = y (ix3 b s d) :=
  shapeCast_apply y h _ _ (by
    rewrite [Shape.rowMajor_val_three, Shape.rowMajor_val_two]
    show (b.val * S + s.val) * D + d.val = r.val * D + d.val
    rw [e])

/-- The sequence of row `r`. -/
def seqOf (r : Fin 16384) : Fin 4 := ⟨r.val / 4096, by omega⟩

/-- The position of row `r` in its sequence. -/
def posOf (r : Fin 16384) : Fin 4096 := ⟨r.val % 4096, by omega⟩

/-- `flat_of` for the batch. -/
theorem flat_apply {D : ℕ} {α : Type} (y : Shape.Idx ⟨3, ![4, 4096, D]⟩ → α)
    (h : Shape.ShapeCasts ⟨3, ![4, 4096, D]⟩ ⟨2, ![16384, D]⟩) (r : Fin 16384) (d : Fin D) :
    shapeCast ⟨2, ![16384, D]⟩ y h (ix2 r d) = y (ix3 (seqOf r) (posOf r) d) :=
  flat_of y h _ _ r (by show r.val / 4096 * 4096 + r.val % 4096 = r.val; omega) d

/-- Entry `r` of the `t`-th block of `T` entries of an axis, as an entry of the axis. -/
def place (T : ℕ) {N : ℕ} (t : ℕ) (r : Fin T) (h : (t + 1) * T ≤ N) : Fin N :=
  ⟨t * T + r.val, by have := r.isLt; rw [Nat.add_mul] at h; omega⟩

/-- A residual's row plus the product of a row with a weight, at column `d`. -/
def projected {K D : ℕ} (x : Fin D → EReal) (a : Fin K → EReal) (w : (⟨2, ![K, D]⟩ : Shape).Idx → EReal) (d : Fin D) : EReal :=
  x d + ∑ k, a k * w (ix2 k d)

/-- A grid of runs of `p` points, one run for each block of `T` rows. Its points leave `o`; what the first point of a run keeps
    in the second part, the run's other points keep too. If the first point keeps the rows `H` of its block, every point does. -/
theorem kept {Np p T N K : ℕ} {α : Type} (o : ∀ n, n < Np → α × ((⟨2, ![T, K]⟩ : Shape).Idx → EReal))
    (H : Fin N → Fin K → EReal)
    (first : ∀ t : Fin Np, t.val % p = 0 → ∀ (r : Fin T) (k : Fin K) (h : (t.val / p + 1) * T ≤ N),
      (o t.val t.isLt).2 (ix2 r k) = H (place T (t.val / p) r h) k)
    (later : ∀ t : Fin Np, ¬t.val % p = 0 → (o t.val t.isLt).2 = (o (t.val - 1) (Nat.lt_of_le_of_lt (Nat.sub_le _ _) t.isLt)).2)
    (n : ℕ) (hn : n < Np) (r : Fin T) (k : Fin K) (h : (n / p + 1) * T ≤ N) :
    (o n hn).2 (ix2 r k) = H (place T (n / p) r h) k := by
  induction n with
  | zero => exact first ⟨0, hn⟩ (Nat.zero_mod p) r k h
  | succ n ih =>
    by_cases h0 : (n + 1) % p = 0
    · exact first ⟨n + 1, hn⟩ h0 r k h
    · have e : (n + 1) / p = n / p := by
        rw [Nat.succ_div, if_neg fun hd => h0 (Nat.mod_eq_zero_of_dvd hd), Nat.add_zero]
      rw [later ⟨n + 1, hn⟩ h0]
      refine (ih (Nat.lt_of_succ_lt hn) (e ▸ h)).trans (congrArg (fun R => H R k) (Fin.ext ?_))
      show n / p * T + r.val = (n + 1) / p * T + r.val
      rw [e]

/-- Such points, each of which writes the product of the rows it keeps with its own tile of a weight, write the products of
    their blocks' rows `H`. -/
theorem tiles {Np p T N K J : ℕ}
    (o : ∀ n, n < Np → ((⟨2, ![T, J]⟩ : Shape).Idx → EReal) × ((⟨2, ![T, K]⟩ : Shape).Idx → EReal))
    (H : Fin N → Fin K → EReal) (tile : Fin Np → (⟨2, ![K, J]⟩ : Shape).Idx → EReal)
    (first : ∀ t : Fin Np, t.val % p = 0 → ∀ (r : Fin T) (k : Fin K) (h : (t.val / p + 1) * T ≤ N),
      (o t.val t.isLt).2 (ix2 r k) = H (place T (t.val / p) r h) k)
    (later : ∀ t : Fin Np, ¬t.val % p = 0 → (o t.val t.isLt).2 = (o (t.val - 1) (Nat.lt_of_le_of_lt (Nat.sub_le _ _) t.isLt)).2)
    (mul : ∀ (t : Fin Np) (r : Fin T) (d : Fin J),
      (o t.val t.isLt).1 (ix2 r d) = ∑ k, (o t.val t.isLt).2 (ix2 r k) * tile t (ix2 k d))
    (t : Fin Np) (r : Fin T) (d : Fin J) (h : (t.val / p + 1) * T ≤ N) :
    (o t.val t.isLt).1 (ix2 r d) = ∑ k, H (place T (t.val / p) r h) k * tile t (ix2 k d) := by
  rw [mul]
  exact Finset.sum_congr rfl fun k _ => congrArg (· * tile t (ix2 k d)) (kept o H first later t.val t.isLt r k h)

/-- A vector as a block of one row. -/
theorem one_row {K : ℕ} {α : Type} (g : Shape.Idx ⟨1, ![K]⟩ → α) (h : Shape.ShapeCasts ⟨1, ![K]⟩ ⟨2, ![1, K]⟩) (k : Fin K) :
    shapeCast ⟨2, ![1, K]⟩ g h (ix2 (0 : Fin 1) k) = g (ix1 k) :=
  shapeCast_apply g h _ _ (by
    rewrite [Shape.rowMajor_val_one, Shape.rowMajor_val_two]
    show k.val = 0 * K + k.val
    omega)

end Cert.Proof.Tokens

end
-- ==== Proof.ExpertsState.lean ====
/- The mixture of experts (program 1): what a grid point of the kernel's call leaves in the scratch it carries to the next
   point, and in its output block. The grid is 32 blocks of 512 rows by 8 experts, the experts innermost. The first expert's
   point norms the rows, chooses each row's two experts and starts the sum; every point adds its expert's rows, weighted; the
   last one adds the residual and writes the block. -/
module

public import proofs.«01_k».proof.Proof.Tokens
public import proofs.«01_k».proof.Proof.Gen.KernelIdeal.Value

@[expose] public section

noncomputable section

namespace Cert.Proof.Experts

open Cert.KernelIdeal Cert.KernelIdeal.Gen Cert.KernelIdeal.Value Cert.Proof.Tokens
open Idealize.ShloMosaic Idealize.ShloMosaic.TcCoe Idealize.SL.Sem

variable {F : FTy → Type} [FloatOps F]

/-- The weight of each expert (a lane) for each row of a block: what the first expert's point works out and keeps. -/
def gates (x : Vec F S512x1024 .f32) (g : Vec F S1x1024 .f32) (r : Vec F S1024x128 .f32) : Vec F S512x128 .f32 :=
  k0_pay9 (iota .tc S512x128 32 [1] iota_S512x128_d1_w32) (k0_pay6 x g r) (k0_pay7 x g r) (k0_pay8 x g r)

variable (m : (ℓ : Loc nD τ sig) → Buf (Elt F) ℓ)

/-- The first expert's point leaves the normed rows, the sum so far (its own rows) and the weights. -/
theorem state_A (c : Dev nD) (t : Fin cfg0.N) (h0 : t.val % 8 = 0) (h1 : ¬t.val % 8 = 7) :
    (outsAt0 m c t.val t.isLt).2 = (k0_pay4 (iblk m c 0 t) (iblk m c 1 t),
      k0_pay10 (grid0.coords t) (k0_pay4 (iblk m c 0 t) (iblk m c 1 t)) (iblk m c 3 t) (iblk m c 4 t) (iblk m c 5 t)
        (gates (iblk m c 0 t) (iblk m c 1 t) (iblk m c 2 t)) k0_pay5,
      gates (iblk m c 0 t) (iblk m c 1 t) (iblk m c 2 t)) := by
  rw [outsAt0_A m c t h0 h1]
  dsimp only
  refine congrArg₂ Prod.mk ?_ (congrArg₂ Prod.mk ?_ ?_)
  · unfold sout0_A_0
    refine (View.read_writes_eq_canon _ _ _ (fun y => scover0_A_0 ..)).trans ?_
    unfold kernelRun0_A
    dsimp only
    sl_unfold_words
    rw [View.canon_unit_zero off2]
    simp only [View.readAt_eq_ld, (hs0_0 t).read_unread, (hs0_1 t).read_unread, View.ld_unit_zero (S := S512x1024) off2, View.ld_unit_zero (S := S1x1024) off2]
  · unfold sout0_A_1
    refine (View.read_writes_eq_canon _ _ _ (fun y => scover0_A_1 ..)).trans ?_
    unfold kernelRun0_A
    dsimp only
    sl_unfold_words
    rw [View.canon_cons_unit_zero (S := S512x1024) off2]
    simp only [View.readCov_unit_zero (S := S512x1024) _ off2, View.readCov_unit_zero (S := S512x128) _ off2,
      View.readAt_eq_ld, (hs0_0 t).read_unread, (hs0_1 t).read_unread, (hs0_2 t).read_unread, (hs0_3 t).read_unread, (hs0_4 t).read_unread,
      (hs0_5 t).read_unread, View.ld_unit_zero (S := S512x1024) off2, View.ld_unit_zero (S := S1x1024) off2, View.ld_unit_zero (S := S1024x128) off2,
      View.ld_unit_zero (S := S1x1024x1408) off3, View.ld_unit_zero (S := S1x1408x1024) off3]
    unfold k0_pay1 gates
    rw [shapeCast_self]
  · unfold sout0_A_2
    refine (View.read_writes_eq_canon _ _ _ (fun y => scover0_A_2 ..)).trans ?_
    unfold kernelRun0_A
    dsimp only
    sl_unfold_words
    rw [View.canon_unit_zero off2]
    simp only [View.readAt_eq_ld, (hs0_0 t).read_unread, (hs0_1 t).read_unread, (hs0_2 t).read_unread,
      View.ld_unit_zero (S := S512x1024) off2, View.ld_unit_zero (S := S1x1024) off2, View.ld_unit_zero (S := S1024x128) off2]
    rfl

/-- A later expert's point keeps the normed rows and the weights, and adds its rows to the sum. -/
theorem state_B (c : Dev nD) (t : Fin cfg0.N) (h0 : ¬t.val % 8 = 0) (h1 : ¬t.val % 8 = 7) :
    (outsAt0 m c t.val t.isLt).2 = ((outsAt0 m c (t.val - 1) (Nat.lt_of_le_of_lt (Nat.sub_le _ _) t.isLt)).2.1,
      k0_pay10 (grid0.coords t) (outsAt0 m c (t.val - 1) (Nat.lt_of_le_of_lt (Nat.sub_le _ _) t.isLt)).2.1 (iblk m c 3 t) (iblk m c 4 t) (iblk m c 5 t)
        (outsAt0 m c (t.val - 1) (Nat.lt_of_le_of_lt (Nat.sub_le _ _) t.isLt)).2.2.2
        (outsAt0 m c (t.val - 1) (Nat.lt_of_le_of_lt (Nat.sub_le _ _) t.isLt)).2.2.1,
      (outsAt0 m c (t.val - 1) (Nat.lt_of_le_of_lt (Nat.sub_le _ _) t.isLt)).2.2.2) := by
  rw [outsAt0_B m c t h0 h1]
  generalize outsAt0 m c (t.val - 1) _ = o
  obtain ⟨o, xn, acc, gs⟩ := o
  dsimp only
  refine congrArg₂ Prod.mk ?_ (congrArg₂ Prod.mk ?_ ?_)
  · rfl
  · unfold sout0_B_1
    refine (View.read_writes_eq_canon _ _ _ (fun y => scover0_B_1 ..)).trans ?_
    unfold kernelRun0_B
    dsimp only
    sl_unfold_words
    rw [View.canon_unit_zero off2]
    simp only [View.readAt_eq_ld, (hs0_3 t).read_unread, (hs0_4 t).read_unread, (hs0_5 t).read_unread,
      View.ld_unit_zero (S := S512x1024) off2, View.ld_unit_zero (S := S512x128) off2,
      View.ld_unit_zero (S := S1x1024x1408) off3, View.ld_unit_zero (S := S1x1408x1024) off3]
    unfold k0_pay1
    rw [shapeCast_self]
    dsimp only
    have e0 : View.read (Elt F) (View.whole cc0_scratch0) ((Memref.isWhole_whole cc0_scratch0).unread xn) = xn := (Memref.isWhole_whole cc0_scratch0).read_unread xn
    have e1 : View.read (Elt F) (View.whole cc0_scratch1) ((Memref.isWhole_whole cc0_scratch1).unread acc) = acc := (Memref.isWhole_whole cc0_scratch1).read_unread acc
    have e2 : View.read (Elt F) (View.whole cc0_scratch2) ((Memref.isWhole_whole cc0_scratch2).unread gs) = gs := (Memref.isWhole_whole cc0_scratch2).read_unread gs
    rw [e0, e1, e2]
  · rfl

/-- The last expert's point writes the residual plus the whole sum. -/
theorem out_C (c : Dev nD) (t : Fin cfg0.N) (h0 : ¬t.val % 8 = 0) (h1 : t.val % 8 = 7) :
    (outsAt0 m c t.val t.isLt).1 = k0_pay2 (iblk m c 0 t)
      (k0_pay10 (grid0.coords t) (outsAt0 m c (t.val - 1) (Nat.lt_of_le_of_lt (Nat.sub_le _ _) t.isLt)).2.1 (iblk m c 3 t) (iblk m c 4 t) (iblk m c 5 t)
        (outsAt0 m c (t.val - 1) (Nat.lt_of_le_of_lt (Nat.sub_le _ _) t.isLt)).2.2.2
        (outsAt0 m c (t.val - 1) (Nat.lt_of_le_of_lt (Nat.sub_le _ _) t.isLt)).2.2.1) := by
  rw [outsAt0_C m c t h0 h1]
  generalize outsAt0 m c (t.val - 1) _ = o
  obtain ⟨o, xn, acc, gs⟩ := o
  dsimp only
  unfold out0_C_6
  refine (View.read_writes_eq_canon _ _ _ (fun y => cover0_C_6 ..)).trans ?_
  unfold kernelRun0_C
  dsimp only
  sl_unfold_words
  rw [View.canon_unit_zero off2]
  simp only [View.readCov_unit_zero (S := S512x1024) _ off2, View.readAt_eq_ld, (hs0_0 t).read_unread, (hs0_3 t).read_unread, (hs0_4 t).read_unread,
    (hs0_5 t).read_unread,
    View.ld_unit_zero (S := S512x1024) off2, View.ld_unit_zero (S := S512x128) off2,
    View.ld_unit_zero (S := S1x1024x1408) off3, View.ld_unit_zero (S := S1x1408x1024) off3]
  unfold k0_pay1
  rw [shapeCast_self]
  dsimp only
  have e0 : View.read (Elt F) (View.whole cc0_scratch0) ((Memref.isWhole_whole cc0_scratch0).unread xn) = xn := (Memref.isWhole_whole cc0_scratch0).read_unread xn
  have e1 : View.read (Elt F) (View.whole cc0_scratch1) ((Memref.isWhole_whole cc0_scratch1).unread acc) = acc := (Memref.isWhole_whole cc0_scratch1).read_unread acc
  have e2 : View.read (Elt F) (View.whole cc0_scratch2) ((Memref.isWhole_whole cc0_scratch2).unread gs) = gs := (Memref.isWhole_whole cc0_scratch2).read_unread gs
  rw [e0, e1, e2]

end Cert.Proof.Experts

end
-- ==== Proof.ExpertsRoute.lean ====
/-
  The choice of two experts out of eight, as mathematics on extended reals: which two lanes win, what weights they
  get, and that the two ways of computing it (lane by lane with a maximum and a least index, or by a stable sort)
  give the same eight weights.
-/
module

public import Idealize.ShloMosaic.Lib.Pointwise
public import Idealize.ShloMosaic.Lib.SortPrefix
public import Idealize.ShloMosaic.Lib.IdealHost

@[expose] public section

noncomputable section

namespace Cert.Proof.Route

open Idealize.ShloMosaic

/-- `i₁` is the first position of the greatest of the eight scores, `i₂` the first of the greatest of the others. -/
structure Best (f : Fin 8 → EReal) (i₁ i₂ : Fin 8) : Prop where
  top : ∀ j, f j ≤ f i₁
  first : ∀ j, j < i₁ → f j < f i₁
  other : i₂ ≠ i₁
  next : ∀ j, j ≠ i₁ → f j ≤ f i₂
  nextFirst : ∀ j, j < i₂ → j ≠ i₁ → f j < f i₂

/-- Among finitely many positions there is a first one that carries the greatest score. -/
theorem exists_first (f : Fin 8 → EReal) (s : Finset (Fin 8)) (hs : s.Nonempty) :
    ∃ i ∈ s, (∀ j ∈ s, f j ≤ f i) ∧ ∀ j ∈ s, j < i → f j < f i := by
  obtain ⟨m, hm, hmax⟩ := s.exists_max_image f hs
  let t := s.filter fun j => f j = f m
  have ht : t.Nonempty := ⟨m, by simp [t, hm]⟩
  have hi := t.min'_mem ht
  obtain ⟨his, hif⟩ := Finset.mem_filter.mp hi
  refine ⟨t.min' ht, his, fun j hj => hif ▸ hmax j hj, fun j hj hlt => ?_⟩
  rw [hif]
  refine lt_of_le_of_ne (hmax j hj) fun e => ?_
  exact absurd (t.min'_le j (Finset.mem_filter.mpr ⟨hj, e⟩)) (not_le.mpr hlt)

theorem exists_best (f : Fin 8 → EReal) : ∃ i₁ i₂, Best f i₁ i₂ := by
  obtain ⟨i, _, htop, hfirst⟩ := exists_first f Finset.univ ⟨0, Finset.mem_univ _⟩
  have hne : (Finset.univ.erase i).Nonempty := by
    rw [← Finset.card_pos, Finset.card_erase_of_mem (Finset.mem_univ i)]; simp
  obtain ⟨k, hk, hnext, hnf⟩ := exists_first f (Finset.univ.erase i) hne
  exact ⟨i, k, fun j => htop j (Finset.mem_univ _), fun j => hfirst j (Finset.mem_univ _), (Finset.mem_erase.mp hk).1,
    fun j hj => hnext j (Finset.mem_erase.mpr ⟨hj, Finset.mem_univ _⟩),
    fun j hlt hj => hnf j (Finset.mem_erase.mpr ⟨hj, Finset.mem_univ _⟩) hlt⟩

/-- How far the second score lies under the first, exponentiated. -/
def ratio (f : Fin 8 → EReal) (i₁ i₂ : Fin 8) : EReal := Ideal.exp (f i₂ - f i₁)

/-- The weight of expert `e`: the softmax of the two best scores, `0` at the six others. -/
def weight (f : Fin 8 → EReal) (i₁ i₂ e : Fin 8) : EReal :=
  (if e = i₁ then Ideal.div 1 (1 + ratio f i₁ i₂) else 0)
    + if e = i₂ then Ideal.div (ratio f i₁ i₂) (1 + ratio f i₁ i₂) else 0

/-! ### By lanes -/

/-- The pattern the maxima start from. -/
theorem negInf : Ideal.ofBits .f32 4286578688#32 = ⊥ := by simp [Ideal.ofBits, Ideal.ieee]

/-- The maximum of a family started at the least value, known at its attained bound. -/
theorem fold_max_eq {n : Nat} (L : Fin n → EReal) (i : Fin n) (h : ∀ j, L j ≤ L i) :
    Finset.univ.fold max (⊥ : EReal) L = L i :=
  le_antisymm ((Finset.fold_max_le _).mpr ⟨bot_le, fun j _ => h j⟩)
    ((Finset.le_fold_max _).mpr (Or.inr ⟨i, Finset.mem_univ _, le_rfl⟩))

theorem minsi_toInt (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

theorem lane_toInt : ∀ x : Fin 128, (BitVec.ofNat 32 x.val).toInt = (x.val : Int) := by decide

theorem lane_inj {x y : Fin 128} (h : BitVec.ofNat 32 x.val = BitVec.ofNat 32 y.val) : x = y := by
  have := congrArg BitVec.toInt h
  rw [lane_toInt, lane_toInt] at this
  exact Fin.ext (by exact_mod_cast this)

/-- The least lane number with a property, the others read as 128. -/
theorem fold_min_lane (p : Fin 128 → Prop) [DecidablePred p] (i : Fin 128) (hi : p i) (hlt : ∀ j, j < i → ¬ p j) :
    Finset.univ.fold IntOp.minsi (2147483647#32) (fun x : Fin 128 => if p x then BitVec.ofNat 32 x.val else 128#32)
      = BitVec.ofNat 32 i.val := by
  refine BitVec.toInt_inj.mp ?_
  rw [← Finset.fold_hom (op' := (min : Int → Int → Int)) minsi_toInt, lane_toInt]
  refine le_antisymm ((Finset.fold_min_le _).mpr (Or.inr ⟨i, Finset.mem_univ _, ?_⟩))
    ((Finset.le_fold_min _).mpr ⟨?_, fun j _ => ?_⟩)
  · rw [if_pos hi, lane_toInt]
  · have := i.isLt
    have e : (2147483647#32).toInt = 2147483647 := by decide
    rw [e]; omega
  · by_cases hj : p j
    · rw [if_pos hj, lane_toInt]
      have : ¬ j < i := fun h => hlt j h hj
      have := Fin.not_lt.mp this
      exact_mod_cast this
    · rw [if_neg hj]
      have e : (128#32).toInt = 128 := by decide
      rw [e]; omega

theorem select_lane {α : Type} (x y : Fin 128) (a b : α) :
    Scalar.select (IntOp.cmpi .eq (BitVec.ofNat 32 x.val) (BitVec.ofNat 32 y.val)) a b = if x = y then a else b := by
  unfold Scalar.select IntOp.cmpi
  by_cases h : x = y
  · subst h; simp
  · have : BitVec.ofNat 32 x.val ≠ BitVec.ofNat 32 y.val := fun e => h (lane_inj e)
    rw [if_neg h, if_neg]
    show ¬ BitVec.ofBool (BitVec.ofNat 32 x.val == BitVec.ofNat 32 y.val) = 1
    rw [beq_false_of_ne this]
    exact (by decide : ¬ BitVec.ofBool false = 1)

theorem select_below : ∀ x : Fin 128, IntOp.cmpi .slt (BitVec.ofNat 32 x.val) 8#32 = if x.val < 8 then 1 else 0 := by
  decide

/-- A lane among the 128 for an expert among the eight. -/
def lane (e : Fin 8) : Fin 128 := ⟨e.val, by omega⟩

theorem lane_eq {a b : Fin 8} : lane a = lane b ↔ a = b := by
  simp [lane, Fin.ext_iff]

/-- The scores laid on 128 lanes, the least value from lane eight on. -/
def spread (f : Fin 8 → EReal) (j : Fin 128) : EReal := if h : j.val < 8 then f ⟨j.val, h⟩ else ⊥

theorem spread_lane (f : Fin 8 → EReal) (e : Fin 8) : spread f (lane e) = f e := by
  have h : (lane e).val < 8 := e.isLt
  rw [spread, dif_pos h]; rfl

/-- What a row of 128 lanes leaves in lane `d`: the least lane of the maximum, the least lane of the maximum of the
    rest, and the two weights put there. -/
def laneGate (L : Fin 128 → EReal) (M₁ : EReal) (I₁ : BitVec 32) (d : Fin 128) : EReal :=
  let L' : Fin 128 → EReal := fun x => Scalar.select (IntOp.cmpi .eq (BitVec.ofNat 32 x.val) I₁) ⊥ (L x)
  let M₂ : EReal := Finset.univ.fold max (⊥ : EReal) L'
  let I₂ : BitVec 32 := Finset.univ.fold IntOp.minsi (2147483647#32)
    fun x : Fin 128 => if L' x = M₂ then BitVec.ofNat 32 x.val else 128#32
  let E : EReal := Ideal.exp (M₂ - M₁)
  Scalar.select (IntOp.cmpi .eq (BitVec.ofNat 32 d.val) I₁) (Ideal.div 1 (1 + E)) 0
    + Scalar.select (IntOp.cmpi .eq (BitVec.ofNat 32 d.val) I₂) (Ideal.div E (1 + E)) 0

variable {f : Fin 8 → EReal} {i₁ i₂ : Fin 8}

theorem spread_le (hb : Best f i₁ i₂) (j : Fin 128) : spread f j ≤ f i₁ := by
  unfold spread; split
  · exact hb.top _
  · exact bot_le

theorem first_max (hb : Best f i₁ i₂) : Finset.univ.fold max (⊥ : EReal) (spread f) = f i₁ := by
  rw [fold_max_eq (spread f) (lane i₁) fun j => by rw [spread_lane]; exact spread_le hb j, spread_lane]

theorem first_index (hb : Best f i₁ i₂) :
    Finset.univ.fold IntOp.minsi (2147483647#32)
      (fun x : Fin 128 => if spread f x = f i₁ then BitVec.ofNat 32 x.val else 128#32)
      = BitVec.ofNat 32 (lane i₁).val := by
  refine fold_min_lane _ (lane i₁) (spread_lane f i₁) fun j hj e => ?_
  have hj8 : j.val < 8 := lt_trans (show j.val < i₁.val from hj) i₁.isLt
  rw [spread, dif_pos hj8] at e
  exact absurd e (hb.first ⟨j.val, hj8⟩ hj).ne

/-- The lanes' weights are the two best scores' softmax weights, when no score is the least value. -/
theorem laneGate_eq (hb : Best f i₁ i₂) (hf : ∀ j, f j ≠ ⊥) (e : Fin 8) :
    laneGate (spread f) (f i₁) (BitVec.ofNat 32 (lane i₁).val) (lane e) = weight f i₁ i₂ e := by
  have hL (x : Fin 128) : Scalar.select (IntOp.cmpi .eq (BitVec.ofNat 32 x.val) (BitVec.ofNat 32 (lane i₁).val)) ⊥
      (spread f x) = if x = lane i₁ then ⊥ else spread f x := select_lane _ _ _ _
  have hval : (if lane i₂ = lane i₁ then ⊥ else spread f (lane i₂)) = f i₂ := by
    rw [if_neg (fun e => hb.other (lane_eq.mp e)), spread_lane]
  have hM : Finset.univ.fold max (⊥ : EReal) (fun x : Fin 128 => if x = lane i₁ then ⊥ else spread f x) = f i₂ := by
    rw [fold_max_eq _ (lane i₂) fun j => ?_, hval]
    rw [hval]
    split
    · exact bot_le
    · rename_i hne
      unfold spread; split
      · rename_i h8
        exact hb.next _ fun e => hne (by rw [← e]; rfl)
      · exact bot_le
  have hI : Finset.univ.fold IntOp.minsi (2147483647#32)
      (fun x : Fin 128 => if (if x = lane i₁ then ⊥ else spread f x) = f i₂ then BitVec.ofNat 32 x.val else 128#32)
      = BitVec.ofNat 32 (lane i₂).val := by
    refine fold_min_lane _ (lane i₂) hval fun j hj e => ?_
    have hj8 : j.val < 8 := lt_trans (show j.val < i₂.val from hj) i₂.isLt
    by_cases hji : j = lane i₁
    · rw [if_pos hji] at e; exact hf i₂ e.symm
    · rw [if_neg hji, spread, dif_pos hj8] at e
      exact absurd e (hb.nextFirst ⟨j.val, hj8⟩ hj fun e' => hji (by rw [← e']; rfl)).ne
  unfold laneGate weight
  simp only [hL, hM, hI, select_lane, lane_eq]
  try rfl

/-! ### By a stable sort -/

/-- Positions in increasing order sort alike under two orders that agree on a later against an earlier one. -/
theorem stableSort_eq_of_increasing {n : Nat} (B B' : Fin n → Fin n → Bool) (h : ∀ a b, a < b → B b a = B' b a)
    (l : List (Fin n)) (hl : l.Pairwise (· < ·)) : stableSort B l = stableSort B' l := by
  induction l with
  | nil => rfl
  | cons a l ih =>
    obtain ⟨ha, hl⟩ := List.pairwise_cons.mp hl
    unfold stableSort
    rw [ih hl]
    exact insertBefore_congr B B' a _ fun b hb => h a b (ha b ((perm_stableSort B' l).mem_iff.mp hb))

/-- The two first positions of the stable descending sort. -/
theorem sortedFrom_best (hb : Best f i₁ i₂) (i : Fin 2) :
    sortedFrom (fun k k' : Fin 8 => decide (f k' < f k)) (i.castLE (by decide)) = ![i₁, i₂] i := by
  classical
  have hB := StrictTotalBefore.of_key_then_position (n := 8) (fun a b : EReal => decide (b < a)) f
    (fun a => by simp) (fun a b c hab hbc => by
      simp only [decide_eq_true_eq] at *; exact hbc.trans hab)
    (fun a b => by
      simp only [decide_eq_true_eq]
      rcases lt_trichotomy a b with h | h | h
      · exact Or.inr (Or.inr h)
      · exact Or.inr (Or.inl h)
      · exact Or.inl h)
  have hsort : sortedFrom (fun k k' : Fin 8 => decide (f k' < f k)) (i.castLE (by decide))
      = sortedFrom (fun k k' : Fin 8 => decide (f k' < f k) || (decide (f k = f k') && decide (k < k')))
          (i.castLE (by decide)) := by
    unfold sortedFrom sortPositions
    have e := stableSort_eq_of_increasing (fun k k' : Fin 8 => decide (f k' < f k))
      (fun k k' : Fin 8 => decide (f k' < f k) || (decide (f k = f k') && decide (k < k')))
      (fun a b hab => by simp [not_lt.mpr hab.le]) (List.finRange 8) (List.pairwise_lt_finRange 8)
    simp only [List.get_eq_getElem, e]; rfl
  rw [hsort]
  refine hB.sortedFrom_eq_of_prefix (by decide) ![i₁, i₂] ?_ ?_ ?_ i
  · intro a b hab
    fin_cases a <;> fin_cases b
    · rfl
    · exact absurd hab.symm hb.other
    · exact absurd hab hb.other
    · rfl
  · intro a b hab
    fin_cases a <;> fin_cases b <;> try exact absurd hab (by decide)
    show (decide (f i₁ < f i₂) || (decide (f i₂ = f i₁) && decide (i₂ < i₁))) = false
    simp only [Bool.or_eq_false_iff, Bool.and_eq_false_iff, decide_eq_false_iff_not]
    refine ⟨not_lt.mpr (hb.top i₂), ?_⟩
    by_cases hlt : i₂ < i₁
    · exact Or.inl (hb.first i₂ hlt).ne
    · exact Or.inr hlt
  · intro a p hp
    have h1 : p ≠ i₁ := fun e => hp 0 e.symm
    have h2 : p ≠ i₂ := fun e => hp 1 e.symm
    fin_cases a
    · show (decide (f i₁ < f p) || (decide (f p = f i₁) && decide (p < i₁))) = false
      simp only [Bool.or_eq_false_iff, Bool.and_eq_false_iff, decide_eq_false_iff_not]
      refine ⟨not_lt.mpr (hb.top p), ?_⟩
      by_cases hlt : p < i₁
      · exact Or.inl (hb.first p hlt).ne
      · exact Or.inr hlt
    · show (decide (f i₂ < f p) || (decide (f p = f i₂) && decide (p < i₂))) = false
      simp only [Bool.or_eq_false_iff, Bool.and_eq_false_iff, decide_eq_false_iff_not]
      refine ⟨not_lt.mpr (hb.next p h1), ?_⟩
      by_cases hlt : p < i₂
      · exact Or.inl (hb.nextFirst p hlt h1).ne
      · exact Or.inr hlt

/-- The softmax of the two best scores, one-hot at their positions and summed over the two, is the weight. -/
theorem weight_of_pair (hb : Best f i₁ i₂) (hr : ∃ a : ℝ, f i₁ = a) (e : Fin 8) (v : Fin 2 → EReal)
    (hv : v = ![f i₁, f i₂]) (M : EReal) (hM : M = f i₁) :
    ∑ k : Fin 2, Ideal.div (Ideal.exp (v k - M)) (∑ j : Fin 2, Ideal.exp (v j - M))
        * (if e = ![i₁, i₂] k then 1 else 0)
      = weight f i₁ i₂ e := by
  obtain ⟨a, ha⟩ := hr
  have h0 : Ideal.exp (f i₁ - f i₁) = 1 := by
    rw [ha, ← EReal.coe_sub, sub_self, Ideal.exp_coe, Real.exp_zero]; rfl
  subst hv hM
  simp only [Fin.sum_univ_two, Matrix.cons_val_zero, Matrix.cons_val_one, h0, zero_add, weight, ratio, mul_ite, mul_one,
    mul_zero]
  rfl

end Cert.Proof.Route
-- ==== Proof.ExpertsLayer.lean ====
/-
  The mixture of experts on one token, as mathematics on extended reals: the normed row, the experts' scores, one
  expert's gated unit, and the running sum of the experts' weighted outputs.
-/
module

public import proofs.«01_k».proof.Proof.ExpertsRoute
public import Idealize.ShloMosaic.Lib.Pointwise

@[expose] public section

noncomputable section

namespace Cert.Proof.Layer

open Idealize.ShloMosaic

/-- Entry `d` of a row scaled to unit mean square and by `g`. -/
def normed {n : ℕ} (bits : BitVec 32) (x g : Fin n → EReal) (d : Fin n) : EReal :=
  x d * Ideal.rsqrt (Ideal.div (∑ k, x k * x k) (Ideal.ofBits .f32 bits) + Ideal.ofBits .f32 897988541#32) * g d

/-- One column of a gated linear unit: `silu (h · wg) * (h · wu)`, against the column `wd`. -/
def gatedUnit {n f : ℕ} (h : Fin n → EReal) (wg wu : Fin n → Fin f → EReal) (wd : Fin f → EReal) : EReal :=
  ∑ j : Fin f, ((∑ k, h k * wg k j) * Ideal.logistic (∑ k, h k * wg k j) * ∑ k, h k * wu k j) * wd j

/-- The sum of the first `n` terms, from the left, started at zero. -/
def accum (u : ℕ → EReal) : ℕ → EReal
  | 0 => 0
  | n + 1 => accum u n + u n

theorem accum_congr (u v : ℕ → EReal) (n : ℕ) (h : ∀ j, j < n → u j = v j) : accum u n = accum v n := by
  induction n with
  | zero => rfl
  | succ n ih => rw [accum, accum, ih fun j hj => h j (by omega), h n (by omega)]

/-- A token's normed row, of `B` sequences of `S` tokens. -/
def hrow {B S : ℕ} (x : (⟨3, ![B, S, 1024]⟩ : Shape).Idx → EReal) (g : (⟨1, ![1024]⟩ : Shape).Idx → EReal) (b : Fin B) (s : Fin S)
    (d : Fin 1024) : EReal :=
  normed 1149239296#32 (fun k : Fin 1024 => x (ix3 b s k)) (fun k : Fin 1024 => g (ix1 k)) d

variable (x : (⟨3, ![4, 4096, 1024]⟩ : Shape).Idx → EReal) (g : (⟨1, ![1024]⟩ : Shape).Idx → EReal)
  (r : (⟨2, ![1024, 8]⟩ : Shape).Idx → EReal) (wg wu : (⟨3, ![8, 1024, 1408]⟩ : Shape).Idx → EReal)
  (wd : (⟨3, ![8, 1408, 1024]⟩ : Shape).Idx → EReal)

/-- A token's score for expert `e`. -/
def score (b : Fin 4) (s : Fin 4096) (e : Fin 8) : EReal := ∑ k : Fin 1024, hrow x g b s k * r (ix2 k e)

/-- Expert `e`'s output at column `d` of a token. -/
def expert (b : Fin 4) (s : Fin 4096) (e : Fin 8) (d : Fin 1024) : EReal :=
  gatedUnit (hrow x g b s) (fun k (j : Fin 1408) => wg (ix3 e k j)) (fun k j => wu (ix3 e k j)) (fun j => wd (ix3 e j d))

end Cert.Proof.Layer
-- ==== Proof.ExpertsRun.lean ====
/-
  The mixture of experts, the kernel's side: the blocks a grid point reads as parts of the launched arguments, and by
  induction over a block's eight points what the carried scratch holds, down to the block the eighth one writes.
-/
module

public import proofs.«01_k».proof.Proof.ExpertsState
public import proofs.«01_k».proof.Proof.ExpertsLayer
public import Idealize.ShloMosaic.Lib.Pointwise
public import Idealize.ShloMosaic.Lib.KernelVsHost

@[expose] public section

noncomputable section

namespace Cert.Proof.Experts

open Cert.KernelIdeal Cert.KernelIdeal.Gen Cert.KernelIdeal.Value
open Cert.Proof.Tokens Cert.Proof.Route Cert.Proof.Layer
open Idealize.ShloMosaic Idealize.ShloMosaic.TcCoe Idealize.SL.Sem Idealize.ShloMosaic.StableHlo

variable (m : (ℓ : Loc nD τ sig) → Buf (Elt Ideal) ℓ)

/-! ### The blocks -/

theorem V_x (c : Dev nD) : V m c main_v0 = shapeCast _ (m ((c : Thread nD τ).loc main_arg0)) shapeCasts_S4x4096x1024_S16384x1024 := by
  dsimp only [V, hostOps0, hostOps0_1, List.flatten_cons, List.flatten_nil, List.cons_append, List.nil_append]; after_results <;> rfl
theorem V_g (c : Dev nD) : V m c main_v4 = shapeCast _ (m ((c : Thread nD τ).loc main_arg1)) shapeCasts_S1024_S1x1024 := by
  dsimp only [V, hostOps0, hostOps0_1, List.flatten_cons, List.flatten_nil, List.cons_append, List.nil_append]; after_results <;> rfl
theorem V_wg (c : Dev nD) : V m c main_v1 = (m ((c : Thread nD τ).loc main_arg3) : Vec Ideal S8x1024x1408 .f32) := by
  dsimp only [V, hostOps0, hostOps0_1, List.flatten_cons, List.flatten_nil, List.cons_append, List.nil_append]; after_results <;> rfl
theorem V_wu (c : Dev nD) : V m c main_v2 = (m ((c : Thread nD τ).loc main_arg4) : Vec Ideal S8x1024x1408 .f32) := by
  dsimp only [V, hostOps0, hostOps0_1, List.flatten_cons, List.flatten_nil, List.cons_append, List.nil_append]; after_results <;> rfl
theorem V_wd (c : Dev nD) : V m c main_v3 = (m ((c : Thread nD τ).loc main_arg5) : Vec Ideal S8x1408x1024 .f32) := by
  dsimp only [V, hostOps0, hostOps0_1, List.flatten_cons, List.flatten_nil, List.cons_append, List.nil_append]; after_results <;> rfl
theorem V_r (c : Dev nD) : V m c main_v5 = pad S1024x128 ![0, 0] ![0, 120] ![0, 0] (m ((c : Thread nD τ).loc main_arg2)) (sitofp (F := Ideal) .f32 (constantI S_ 32 0#32)) pads_S1024x8_S1024x128_000_01200 h_S_ := by
  dsimp only [V, hostOps0, hostOps0_1, List.flatten_cons, List.flatten_nil, List.cons_append, List.nil_append]; after_results <;> rfl

/-- Grid point `t` reads the rows from row `512 (t / 8)` and the weights of expert `t % 8`. -/
theorem idx_rows : ∀ t : Fin cfg0.N, win0_0.index t (0 : Fin 2) = t.val / 8 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val % 8 ∧ win0_3.index t (1 : Fin 3) = 0 ∧ win0_3.index t (2 : Fin 3) = 0
    ∧ win0_4.index t (0 : Fin 3) = t.val % 8 ∧ win0_4.index t (1 : Fin 3) = 0 ∧ win0_4.index t (2 : Fin 3) = 0
    ∧ win0_5.index t (0 : Fin 3) = t.val % 8 ∧ win0_5.index t (1 : Fin 3) = 0 ∧ win0_5.index t (2 : Fin 3) = 0
    ∧ (grid0.coords t 1).val = t.val % 8 :=
  (by decide +kernel : ∀ t : Fin grid0.N, _)

/-- The array's row which is row `r` of the block of grid point `n`. -/
def rowAt (n : ℕ) (hn : n < cfg0.N) (r : Fin 512) : Fin 16384 :=
  ⟨n / 8 * 512 + r.val, by have : n < 256 := hn; omega⟩

/-- The expert of grid point `n`. -/
def expAt (n : ℕ) : Fin 8 := ⟨n % 8, Nat.mod_lt _ (by decide)⟩

theorem emb0 (t : Fin cfg0.N) (r : Fin 512) (k : Fin 1024) :
    ((cfg0.win 0).blk t).view.emb (ix2 r k) = ix2 (rowAt t.val t.isLt r) k := by
  obtain ⟨e, f, -⟩ := idx_rows t
  funext a; apply Fin.ext
  match a with
  | ⟨0, _⟩ => show win0_0.index t (0 : Fin 2) * 512 + 1 * r.val = t.val / 8 * 512 + r.val; omega
  | ⟨1, _⟩ => show win0_0.index t (1 : Fin 2) * 1024 + 1 * k.val = k.val; omega

theorem emb1 (t : Fin cfg0.N) (k : Fin 1024) : ((cfg0.win 1).blk t).view.emb (ix2 (0 : Fin 1) k) = ix2 (0 : Fin 1) k := by
  obtain ⟨-, -, e, f, -⟩ := idx_rows t
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem emb2 (t : Fin cfg0.N) (k : Fin 1024) (l : Fin 128) : ((cfg0.win 2).blk t).view.emb (ix2 k l) = ix2 k l := by
  obtain ⟨-, -, -, -, e, f, -⟩ := idx_rows t
  funext a; apply Fin.ext
  match a with
  | ⟨0, _⟩ => show win0_2.index t (0 : Fin 2) * 1024 + 1 * k.val = k.val; omega
  | ⟨1, _⟩ => show win0_2.index t (1 : Fin 2) * 128 + 1 * l.val = l.val; omega

theorem emb3 (t : Fin cfg0.N) (k : Fin 1024) (j : Fin 1408) :
    ((cfg0.win 3).blk t).view.emb (ix3 (0 : Fin 1) k j) = ix3 (expAt t.val) k j := by
  obtain ⟨-, -, -, -, -, -, e, f, f', -⟩ := idx_rows t
  funext a; apply Fin.ext
  match a with
  | ⟨0, _⟩ => show win0_3.index t (0 : Fin 3) * 1 + 1 * 0 = t.val % 8; omega
  | ⟨1, _⟩ => show win0_3.index t (1 : Fin 3) * 1024 + 1 * k.val = k.val; omega
  | ⟨2, _⟩ => show win0_3.index t (2 : Fin 3) * 1408 + 1 * j.val = j.val; omega

theorem emb4 (t : Fin cfg0.N) (k : Fin 1024) (j : Fin 1408) :
    ((cfg0.win 4).blk t).view.emb (ix3 (0 : Fin 1) k j) = ix3 (expAt t.val) k j := by
  obtain ⟨-, -, -, -, -, -, -, -, -, e, f, f', -⟩ := idx_rows t
  funext a; apply Fin.ext
  match a with
  | ⟨0, _⟩ => show win0_4.index t (0 : Fin 3) * 1 + 1 * 0 = t.val % 8; omega
  | ⟨1, _⟩ => show win0_4.index t (1 : Fin 3) * 1024 + 1 * k.val = k.val; omega
  | ⟨2, _⟩ => show win0_4.index t (2 : Fin 3) * 1408 + 1 * j.val = j.val; omega

theorem emb5 (t : Fin cfg0.N) (j : Fin 1408) (d : Fin 1024) :
    ((cfg0.win 5).blk t).view.emb (ix3 (0 : Fin 1) j d) = ix3 (expAt t.val) j d := by
  obtain ⟨-, -, -, -, -, -, -, -, -, -, -, -, e, f, f', -⟩ := idx_rows t
  funext a; apply Fin.ext
  match a with
  | ⟨0, _⟩ => show win0_5.index t (0 : Fin 3) * 1 + 1 * 0 = t.val % 8; omega
  | ⟨1, _⟩ => show win0_5.index t (1 : Fin 3) * 1408 + 1 * j.val = j.val; omega
  | ⟨2, _⟩ => show win0_5.index t (2 : Fin 3) * 1024 + 1 * d.val = d.val; omega

/-! ### The launched arguments -/

abbrev aX (c : Dev nD) : (⟨3, ![4, 4096, 1024]⟩ : Shape).Idx → EReal := m ((c : Thread nD τ).loc main_arg0)
abbrev aG (c : Dev nD) : (⟨1, ![1024]⟩ : Shape).Idx → EReal := m ((c : Thread nD τ).loc main_arg1)
abbrev aR (c : Dev nD) : (⟨2, ![1024, 8]⟩ : Shape).Idx → EReal := m ((c : Thread nD τ).loc main_arg2)
abbrev aWg (c : Dev nD) : (⟨3, ![8, 1024, 1408]⟩ : Shape).Idx → EReal := m ((c : Thread nD τ).loc main_arg3)
abbrev aWu (c : Dev nD) : (⟨3, ![8, 1024, 1408]⟩ : Shape).Idx → EReal := m ((c : Thread nD τ).loc main_arg4)
abbrev aWd (c : Dev nD) : (⟨3, ![8, 1408, 1024]⟩ : Shape).Idx → EReal := m ((c : Thread nD τ).loc main_arg5)

/-- A row of the array: its normed entries, its scores, its lanes' weights, an expert's weighted output. -/
def hAt (c : Dev nD) (R : Fin 16384) : Fin 1024 → EReal := hrow (aX m c) (aG m c) (seqOf R) (posOf R)
def scoreAt (c : Dev nD) (R : Fin 16384) : Fin 8 → EReal := score (aX m c) (aG m c) (aR m c) (seqOf R) (posOf R)
def gateAt (c : Dev nD) (R : Fin 16384) (l : Fin 128) : EReal :=
  laneGate (spread (scoreAt m c R)) (Finset.univ.fold max ⊥ (spread (scoreAt m c R)))
    (Finset.univ.fold IntOp.minsi (2147483647#32) fun x : Fin 128 =>
      if spread (scoreAt m c R) x = Finset.univ.fold max ⊥ (spread (scoreAt m c R)) then BitVec.ofNat 32 x.val else 128#32) l
def termAt (c : Dev nD) (R : Fin 16384) (d : Fin 1024) (n : ℕ) : EReal :=
  if h : n < 8 then expert (aX m c) (aG m c) (aWg m c) (aWu m c) (aWd m c) (seqOf R) (posOf R) ⟨n, h⟩ d
    * gateAt m c R (lane ⟨n, h⟩) else 0

variable (c : Dev nD) (t : Fin cfg0.N)

theorem blk0 (r : Fin 512) (k : Fin 1024) :
    iblk m c 0 t (ix2 r k) = aX m c (ix3 (seqOf (rowAt t.val t.isLt r)) (posOf (rowAt t.val t.isLt r)) k) := by
  show V m c main_v0 (((cfg0.win 0).blk t).view.emb (ix2 r k)) = _
  rw [emb0, V_x]; exact flat_apply _ _ _ _

theorem blk1 (k : Fin 1024) : iblk m c 1 t (ix2 (0 : Fin 1) k) = aG m c (ix1 k) := by
  show V m c main_v4 (((cfg0.win 1).blk t).view.emb (ix2 (0 : Fin 1) k)) = _
  rw [emb1, V_g]
  pointwise []

theorem blk2 (k : Fin 1024) (e : Fin 8) : iblk m c 2 t (ix2 k (lane e)) = aR m c (ix2 k e) := by
  show V m c main_v5 (((cfg0.win 2).blk t).view.emb (ix2 k (lane e))) = _
  rw [emb2, V_r]
  refine pad_apply_of_inside _ _ _ _ _ _ _ _ (ix2 k e) fun a => ?_
  match a with
  | ⟨0, _⟩ => show k.val = 0 + k.val * 1; omega
  | ⟨1, _⟩ => show e.val = 0 + e.val * 1; omega

theorem blk3 (k : Fin 1024) (j : Fin 1408) : iblk m c 3 t (ix3 (0 : Fin 1) k j) = aWg m c (ix3 (expAt t.val) k j) := by
  show V m c main_v1 (((cfg0.win 3).blk t).view.emb (ix3 (0 : Fin 1) k j)) = _
  rw [emb3, V_wg]

theorem blk4 (k : Fin 1024) (j : Fin 1408) : iblk m c 4 t (ix3 (0 : Fin 1) k j) = aWu m c (ix3 (expAt t.val) k j) := by
  show V m c main_v2 (((cfg0.win 4).blk t).view.emb (ix3 (0 : Fin 1) k j)) = _
  rw [emb4, V_wu]

theorem blk5 (j : Fin 1408) (d : Fin 1024) : iblk m c 5 t (ix3 (0 : Fin 1) j d) = aWd m c (ix3 (expAt t.val) j d) := by
  show V m c main_v3 (((cfg0.win 5).blk t).view.emb (ix3 (0 : Fin 1) j d)) = _
  rw [emb5, V_wd]

/-! ### What the payloads make of the blocks -/

theorem normed_apply (r : Fin 512) (d : Fin 1024) :
    k0_pay3 (iblk m c 0 t) (iblk m c 1 t) (ix2 r d) = hAt m c (rowAt t.val t.isLt r) d := by
  generalize hx : iblk m c 0 t = x
  generalize hg : iblk m c 1 t = g
  pointwise [k0_pay3]
  subst hx hg
  rw [blk1]
  simp only [blk0]
  rfl

theorem scores_apply (r : Fin 512) (l : Fin 128) :
    k0_pay6 (iblk m c 0 t) (iblk m c 1 t) (iblk m c 2 t) (ix2 r l) = spread (scoreAt m c (rowAt t.val t.isLt r)) l := by
  have e : k0_pay6 (iblk m c 0 t) (iblk m c 1 t) (iblk m c 2 t) (ix2 r l)
      = Scalar.select (IntOp.cmpi .slt (BitVec.ofNat 32 l.val) 8#32)
        (∑ k : Fin 1024, k0_pay3 (iblk m c 0 t) (iblk m c 1 t) (ix2 r k) * iblk m c 2 t (ix2 k l) : EReal)
        (Ideal.ofBits .f32 4286578688#32) := by
    generalize iblk m c 0 t = x
    generalize iblk m c 1 t = g
    generalize iblk m c 2 t = w
    pointwise [k0_pay6, dot_S512x1024_S1024x128_S512x128_1_0_0_1_n_n]
  rw [e, select_below, negInf]
  unfold spread Scalar.select
  by_cases h : l.val < 8
  · rw [if_pos h, dif_pos h, if_pos rfl]
    simp only [normed_apply]
    exact Finset.sum_congr rfl fun k _ => congrArg (hAt m c (rowAt t.val t.isLt r) k * · : EReal → EReal)
      (blk2 m c t k ⟨l.val, h⟩)
  · rw [if_neg h, dif_neg h, if_neg (by decide)]

theorem gates_apply (r : Fin 512) (l : Fin 128) :
    gates (iblk m c 0 t) (iblk m c 1 t) (iblk m c 2 t) (ix2 r l) = gateAt m c (rowAt t.val t.isLt r) l := by
  have h7 : k0_pay7 (iblk m c 0 t) (iblk m c 1 t) (iblk m c 2 t) (ix2 r (0 : Fin 1))
      = Finset.univ.fold max ⊥ (spread (scoreAt m c (rowAt t.val t.isLt r))) := by
    have e : k0_pay7 (iblk m c 0 t) (iblk m c 1 t) (iblk m c 2 t) (ix2 r (0 : Fin 1))
        = Finset.univ.fold max (Ideal.ofBits .f32 4286578688#32)
          (fun j : Fin 128 => k0_pay6 (iblk m c 0 t) (iblk m c 1 t) (iblk m c 2 t) (ix2 r j)) := by
      generalize iblk m c 0 t = x
      generalize iblk m c 1 t = g
      generalize iblk m c 2 t = w
      pointwise [k0_pay7]
    rw [e, negInf]
    simp only [scores_apply]
  have h8 (j : Fin 128) : k0_pay8 (iblk m c 0 t) (iblk m c 1 t) (iblk m c 2 t) (ix2 r j)
      = if spread (scoreAt m c (rowAt t.val t.isLt r)) j = Finset.univ.fold max ⊥ (spread (scoreAt m c (rowAt t.val t.isLt r)))
        then BitVec.ofNat 32 j.val else 128#32 := by
    have e : k0_pay8 (iblk m c 0 t) (iblk m c 1 t) (iblk m c 2 t) (ix2 r j)
        = if k0_pay6 (iblk m c 0 t) (iblk m c 1 t) (iblk m c 2 t) (ix2 r j)
            = k0_pay7 (iblk m c 0 t) (iblk m c 1 t) (iblk m c 2 t) (ix2 r (0 : Fin 1))
          then BitVec.ofNat 32 j.val else 128#32 := by
      generalize iblk m c 0 t = x
      generalize iblk m c 1 t = g
      generalize iblk m c 2 t = w
      pointwise [k0_pay8]
    rw [e, scores_apply, h7]
  have h6 := fun j => scores_apply m c t r j
  unfold gates
  generalize k0_pay6 (iblk m c 0 t) (iblk m c 1 t) (iblk m c 2 t) = v70 at *
  generalize k0_pay7 (iblk m c 0 t) (iblk m c 1 t) (iblk m c 2 t) = v72 at *
  generalize k0_pay8 (iblk m c 0 t) (iblk m c 1 t) (iblk m c 2 t) = v76 at *
  pointwise [k0_pay9]
  rw [negInf]
  simp only [h6, h7, h8]
  rfl

/-- One point's contribution. -/
theorem step_apply (xn : Vec Ideal S512x1024 .bf16) (gs : Vec Ideal S512x128 .f32) (acc : Vec Ideal S512x1024 .f32)
    (r : Fin 512) (d : Fin 1024) (R : Fin 16384) (hx : ∀ k, xn (ix2 r k) = hAt m c R k) (hg : ∀ l, gs (ix2 r l) = gateAt m c R l) :
    k0_pay10 (grid0.coords t) xn (iblk m c 3 t) (iblk m c 4 t) (iblk m c 5 t) gs acc (ix2 r d)
      = (acc (ix2 r d) + termAt m c R d (t.val % 8) : EReal) := by
  have hc : ((grid0.coords t 1).val) = (lane (expAt t.val)).val := (idx_rows t).2.2.2.2.2.2.2.2.2.2.2.2.2.2.2
  have h3 := blk3 m c t
  have h4 := blk4 m c t
  have h5 := blk5 m c t
  generalize iblk m c 3 t = v6 at *
  generalize iblk m c 4 t = v11 at *
  generalize iblk m c 5 t = v15 at *
  generalize grid0.coords t = i at *
  pointwise [k0_pay10, dot_S512x1024_S1024x1408_S512x1408_1_0_0_1_n_n, dot_S512x1408_S1408x1024_S512x1024_1_0_0_1_n_n]
  rw [hc]
  simp only [hx, hg, h3, h4, h5, select_lane, Finset.sum_ite_eq', Finset.mem_univ, if_true]
  refine congrArg (acc (ix2 r d) + · : EReal → EReal) ?_
  rw [termAt, dif_pos (Nat.mod_lt _ (by decide))]
  rfl

/-! ### The eight points of a block -/

/-- What the scratch holds for row `R` of the array, its row `r` in the block, after `j` experts. -/
structure Holds (R : Fin 16384) (r : Fin 512) (j : ℕ) (o : Vec Ideal S512x1024 .bf16 × Vec Ideal S512x1024 .f32 × Vec Ideal S512x128 .f32) :
    Prop where
  rows : ∀ k, o.1 (ix2 r k) = hAt m c R k
  sum : ∀ d, o.2.1 (ix2 r d) = accum (termAt m c R d) j
  lanes : ∀ l, o.2.2 (ix2 r l) = gateAt m c R l

theorem zeros_apply (r : Fin 512) (d : Fin 1024) : k0_pay5 (F := Ideal) (ix2 r d) = (0 : EReal) := by
  pointwise [k0_pay5]

theorem narrowed_apply (x : Vec Ideal S512x1024 .f32) (g : Vec Ideal S1x1024 .f32) (r : Fin 512) (d : Fin 1024) :
    k0_pay4 x g (ix2 r d) = k0_pay3 x g (ix2 r d) := by
  pointwise [k0_pay4]

theorem holds_first (h0 : t.val % 8 = 0) (r : Fin 512) :
    Holds m c (rowAt t.val t.isLt r) r 1 (outsAt0 m c t.val t.isLt).2 := by
  have hx (k : Fin 1024) : k0_pay4 (iblk m c 0 t) (iblk m c 1 t) (ix2 r k) = hAt m c (rowAt t.val t.isLt r) k :=
    (narrowed_apply _ _ r k).trans (normed_apply m c t r k)
  rw [state_A m c t h0 (by omega)]
  constructor
  · exact hx
  · intro d
    dsimp only
    rw [step_apply m c t _ _ _ r d _ hx (fun l => gates_apply m c t r l), h0, zeros_apply]
    rfl
  · exact fun l => gates_apply m c t r l

theorem holds_next (h0 : ¬t.val % 8 = 0) (h7 : ¬t.val % 8 = 7) (r : Fin 512)
    (ih : Holds m c (rowAt t.val t.isLt r) r (t.val % 8)
      (outsAt0 m c (t.val - 1) (Nat.lt_of_le_of_lt (Nat.sub_le _ _) t.isLt)).2) :
    Holds m c (rowAt t.val t.isLt r) r (t.val % 8 + 1) (outsAt0 m c t.val t.isLt).2 := by
  rw [state_B m c t h0 h7]
  constructor
  · exact ih.rows
  · intro d
    dsimp only
    rw [step_apply m c t _ _ _ r d _ ih.rows ih.lanes, ih.sum]
    rfl
  · exact ih.lanes

theorem row_pred (h0 : ¬t.val % 8 = 0) (r : Fin 512) :
    rowAt t.val t.isLt r = rowAt (t.val - 1) (Nat.lt_of_le_of_lt (Nat.sub_le _ _) t.isLt) r := Fin.ext (by
  show t.val / 8 * 512 + r.val = (t.val - 1) / 8 * 512 + r.val
  have : t.val / 8 = (t.val - 1) / 8 := by omega
  rw [this])

/-- Up to the seventh point of a block the scratch holds the normed rows, the sum so far and the weights. -/
theorem holds (n : ℕ) (hn : n < cfg0.N) (h7 : ¬n % 8 = 7) (r : Fin 512) :
    Holds m c (rowAt n hn r) r (n % 8 + 1) (outsAt0 m c n hn).2 := by
  induction n with
  | zero => exact holds_first m c ⟨0, hn⟩ rfl r
  | succ n ih =>
    by_cases h0 : (n + 1) % 8 = 0
    · have := holds_first m c ⟨n + 1, hn⟩ h0 r
      rw [h0]; exact this
    · refine holds_next m c ⟨n + 1, hn⟩ h0 h7 r ?_
      rw [row_pred ⟨n + 1, hn⟩ h0]
      have e : (⟨n + 1, hn⟩ : Fin cfg0.N).val % 8 = n % 8 + 1 := by show (n + 1) % 8 = _; omega
      rw [e]
      exact ih (by omega) (by omega)

theorem residual_apply (x acc : Vec Ideal S512x1024 .f32) (r : Fin 512) (d : Fin 1024) :
    k0_pay2 x acc (ix2 r d) = (x (ix2 r d) + acc (ix2 r d) : EReal) := by
  pointwise [k0_pay2]

/-- The eighth point writes the residual plus all eight terms. -/
theorem out_last (h7 : t.val % 8 = 7) (r : Fin 512) (d : Fin 1024) :
    (outsAt0 m c t.val t.isLt).1 (ix2 r d)
      = (aX m c (ix3 (seqOf (rowAt t.val t.isLt r)) (posOf (rowAt t.val t.isLt r)) d)
          + accum (termAt m c (rowAt t.val t.isLt r) d) 8 : EReal) := by
  have h0 : ¬t.val % 8 = 0 := by omega
  have ih := holds m c (t.val - 1) (Nat.lt_of_le_of_lt (Nat.sub_le _ _) t.isLt) (by omega) r
  rw [← row_pred t h0] at ih
  rw [out_C m c t h0 h7, residual_apply, blk0, step_apply m c t _ _ _ r d _ ih.rows ih.lanes, ih.sum]
  have e6 : (t.val - 1) % 8 + 1 = 7 := by omega
  rw [e6, h7]
  rfl

/-- The result array at an index. -/
theorem G_apply (R : Fin 16384) (d : Fin 1024) :
    G6 m c (ix2 R d) = (aX m c (ix3 (seqOf R) (posOf R) d) + accum (termAt m c R d) 8 : EReal) := by
  have hR := R.isLt
  have hd := d.isLt
  have hv : pt6Of (ix2 R d) = 8 * (R.val / 512) + 7 := by
    show 8 * (1 * (R.val / 512 - 0) + 1 * (d.val / 1024 - 0)) + 7 = _
    omega
  have hp : pt6Of (ix2 R d) < cfg0.N := by
    show pt6Of (ix2 R d) < 256
    omega
  unfold G6
  rw [dif_pos hp, ← outsAt0_sweep m c _ hp]
  have hl : loc6Of (ix2 R d) = ix2 (⟨R.val % 512, Nat.mod_lt _ (by decide)⟩ : Fin 512) d := by
    funext a; apply Fin.ext
    match a with
    | ⟨0, _⟩ => rfl
    | ⟨1, _⟩ => exact Nat.mod_eq_of_lt hd
  rw [hl]
  refine (out_last m c ⟨pt6Of (ix2 R d), hp⟩ (by show pt6Of (ix2 R d) % 8 = 7; omega) _ d).trans ?_
  have e : rowAt (pt6Of (ix2 R d)) hp ⟨R.val % 512, Nat.mod_lt _ (by decide)⟩ = R := Fin.ext (by
    show pt6Of (ix2 R d) / 8 * 512 + R.val % 512 = R.val
    omega)
  rw [e]

end Cert.Proof.Experts

end
-- ==== Proof.ExpertsRef.lean ====
/-
  The mixture of experts, the reference's side: its result at a row is the row plus the sum over the eight experts of
  the expert's weight times its gated unit, the weights those of the two best scores.
-/
module

public import proofs.«01_k».proof.Proof.Tokens
public import proofs.«01_k».proof.Proof.ExpertsLayer
public import proofs.«01_k».proof.Proof.Gen.ReferenceIdeal.Read

@[expose] public section

noncomputable section

namespace Cert.Proof.ExpertsRef

open Cert.ReferenceIdeal Cert.ReferenceIdeal.Gen Cert.ReferenceIdeal.Read
open Cert.Proof.Tokens Cert.Proof.Route Cert.Proof.Layer
open Idealize.ShloMosaic

variable (x : Vec Ideal S4x4096x1024 .f32) (g : Vec Ideal S1024 .f32) (r : Vec Ideal S1024x8 .f32)
  (wg wu : Vec Ideal S8x1024x1408 .f32) (wd : Vec Ideal S8x1408x1024 .f32)

theorem h_apply (b : Fin 4) (s : Fin 4096) (d : Fin 1024) : val_main_v12 x g (ix3 b s d) = hrow x g b s d := by
  pointwise [val_main_v12, val_main_v9, val_main_v11, val_main_v8, val_main_v7, val_main_v6, val_main_v5, val_main_v4,
    val_main_v3, val_main_v2, val_main_v1, val_main_v0, val_main_v10, val_main_cst, val_main_cst_0, val_main_cst_1]
  rfl

theorem score_apply (b : Fin 4) (s : Fin 4096) (e : Fin 8) : val_main_v13 x g r (ix3 b s e) = score x g r b s e := by
  pointwise [val_main_v13, dot_S4x4096x1024_S1024x8_S4x4096x8_2_0_01_1_n_n]
  exact Finset.sum_congr rfl fun k _ => by rw [h_apply]

/-- The `k` greatest of each fiber along the last axis, and their positions, are the first of the stable sort. -/
theorem topK_apply {α : Type} {A B N K : ℕ} (gt : α → α → BitVec 1) (y : (⟨3, ![A, B, N]⟩ : Shape).Idx → α) (hK : K ≤ N)
    (h : (⟨3, ![A, B, N]⟩ : Shape).Slices (fun _ => 0) ⟨3, ![A, B, K]⟩) (b : Fin A) (s : Fin B) (k : Fin K) :
    (Host.topK ⟨3, ![A, B, K]⟩ 2 gt y h).1 (ix3 b s k)
        = y (ix3 b s (sortedFrom (fun k k' : Fin N => gt (y (ix3 b s k)) (y (ix3 b s k')) == 1#1) (k.castLE hK)))
      ∧ (Host.topK ⟨3, ![A, B, K]⟩ 2 gt y h).2 (ix3 b s k)
        = BitVec.ofNat 32
          (sortedFrom (fun k k' : Fin N => gt (y (ix3 b s k)) (y (ix3 b s k')) == 1#1) (k.castLE hK)).val := by
  have hal (j q : Fin N) :
      Shape.Idx.along (ix3 b s q : (⟨3, ![A, B, N]⟩ : Shape).Idx) (2 : Fin 3) j = ix3 b s j := by
    funext a
    fin_cases a <;> rfl
  have hs {β : Type} (z : (⟨3, ![A, B, N]⟩ : Shape).Idx → β) :
      extractStridedSlice ⟨3, ![A, B, K]⟩ (fun _ => 0) z h (ix3 b s k) = z (ix3 b s (k.castLE hK)) := by
    unfold extractStridedSlice
    refine congrArg z (funext fun a => Fin.ext ?_)
    fin_cases a <;> simp [ix3]
  unfold Host.topK
  dsimp only
  rw [hs, hs]
  unfold Host.sort2
  rw [dif_pos (show 2 < (⟨3, ![A, B, N]⟩ : Shape).rank by show 2 < 3; decide)]
  have hf : (fun k' k'' : Fin N => gt (y (Shape.Idx.along (ix3 b s (k.castLE hK) : (⟨3, ![A, B, N]⟩ : Shape).Idx) (2 : Fin 3) k'))
      (y (Shape.Idx.along (ix3 b s (k.castLE hK) : (⟨3, ![A, B, N]⟩ : Shape).Idx) (2 : Fin 3) k'')) == 1#1)
      = fun k' k'' : Fin N => gt (y (ix3 b s k')) (y (ix3 b s k'')) == 1#1 := by
    funext k' k''
    rw [hal, hal]
  constructor
  · exact congrArg y ((hal _ _).trans (congrArg (fun B' => ix3 b s (sortedFrom B' (k.castLE hK))) hf))
  · refine Eq.trans ?_ (congrArg (fun B' => BitVec.ofNat 32 (sortedFrom B' (k.castLE hK)).val) hf)
    rfl

/-- Which position the sort puts at rank `k`: the two best. -/
theorem rank (b : Fin 4) (s : Fin 4096) (i₁ i₂ : Fin 8) (hb : Best (score x g r b s) i₁ i₂) (k : Fin 2) :
    val_main_values x g r (ix3 b s k) = score x g r b s (![i₁, i₂] k)
      ∧ val_main_indices x g r (ix3 b s k) = BitVec.ofNat 32 (![i₁, i₂] k).val := by
  have hB : (fun k k' : Fin 8 => FloatOps.cmpfTotal (F := Ideal) (φ := .f32) .gt (val_main_v13 x g r (ix3 b s k))
      (val_main_v13 x g r (ix3 b s k')) == 1#1)
      = fun k k' : Fin 8 => decide (score x g r b s k' < score x g r b s k) := by
    funext k k'
    rw [score_apply, score_apply]
    show (BitVec.ofBool (decide (score x g r b s k' < score x g r b s k)) == 1#1) = _
    cases decide (score x g r b s k' < score x g r b s k) <;> rfl
  have hsort := sortedFrom_best hb k
  rw [← hB] at hsort
  have ht := topK_apply (FloatOps.cmpfTotal (F := Ideal) (φ := .f32) .gt) (val_main_v13 x g r) (by decide)
    sliceFits_S4x4096x8_S4x4096x2 b s k
  rw [hsort, score_apply] at ht
  exact ht

theorem weight_apply (b : Fin 4) (s : Fin 4096) (i₁ i₂ : Fin 8) (hb : Best (score x g r b s) i₁ i₂)
    (hr : ∃ a : ℝ, score x g r b s i₁ = a) (e : Fin 8) :
    val_main_v26 x g r (ix3 b s e) = weight (score x g r b s) i₁ i₂ e := by
  have hv : (fun k : Fin 2 => (val_main_values x g r (ix3 b s k) : EReal))
      = ![score x g r b s i₁, score x g r b s i₂] := by
    funext k
    rw [(rank x g r b s i₁ i₂ hb k).1]
    fin_cases k <;> rfl
  have hM : max (⊥ : EReal) (Finset.fold max ⊥ (fun k : Fin 2 => (val_main_values x g r (ix3 b s k) : EReal)) Finset.univ)
      = score x g r b s i₁ := by
    rw [hv, max_eq_right bot_le, fold_max_eq _ (0 : Fin 2) fun j => ?_]
    · rfl
    · fin_cases j
      · exact le_rfl
      · exact hb.top i₂
  have hone (k : Fin 2) : val_main_v25 x g r (ridx_main_v26 (ix3 b s e) k) = (if e = ![i₁, i₂] k then 1 else 0 : EReal) := by
    have hi : ridx_main_v26 (ix3 b s e) k = ix4 b s k e := by funext a; fin_cases a <;> rfl
    rw [hi]
    pointwise [val_main_v25, val_main_call0_v4, val_main_call0_v3, val_main_call0_v2, val_main_call0_v1, val_main_call0_v0]
    rw [(rank x g r b s i₁ i₂ hb k).2]
    have hc : ∀ a c : Fin 8, IntOp.cmpi .eq (BitVec.ofNat 32 a.val) (BitVec.ofNat 32 c.val) = if c = a then 1#1 else 0#1 := by
      decide
    rw [hc]
    split
    · show (((1#1).toNat : ℝ) : EReal) = 1
      norm_num
    · show (((0#1).toNat : ℝ) : EReal) = 0
      norm_num
  rw [val_main_v26_apply, ← weight_of_pair hb hr e _ hv _ hM]
  refine Finset.sum_congr rfl fun k _ => ?_
  have hi : lidx_main_v26 (ix3 b s e) k = ix3 b s k := by funext a; fin_cases a <;> rfl
  rw [hone, hi]
  refine congrArg (· * (if e = ![i₁, i₂] k then 1 else 0 : EReal)) ?_
  pointwise [val_main_v24, val_main_v23, val_main_v22, val_main_v21, val_main_v20, val_main_v19, val_main_v18,
    val_main_v17, val_main_v16, val_main_v15, val_main_v14, val_main_cst_2, val_main_cst_3, val_main_cst_4]
  rw [negInf]

/-- The slice of one expert's input weights, as a matrix. -/
def wIn (e : Fin 8) (h : S8x1024x1408.Slices ![e.val, 0, 0] S1x1024x1408) (w : FVec Ideal S8x1024x1408 .f32) :
    FVec Ideal S1024x1408 .f32 :=
  shapeCast S1024x1408 (extractStridedSlice S1x1024x1408 ![e.val, 0, 0] w h) shapeCasts_S1x1024x1408_S1024x1408

/-- The slice of one expert's output weights, as a matrix. -/
def wOut (e : Fin 8) (h : S8x1408x1024.Slices ![e.val, 0, 0] S1x1408x1024) (w : FVec Ideal S8x1408x1024 .f32) :
    FVec Ideal S1408x1024 .f32 :=
  shapeCast S1408x1024 (extractStridedSlice S1x1408x1024 ![e.val, 0, 0] w h) shapeCasts_S1x1408x1024_S1408x1024

theorem wIn_apply (e : Fin 8) (h : S8x1024x1408.Slices ![e.val, 0, 0] S1x1024x1408) (w : FVec Ideal S8x1024x1408 .f32)
    (k : Fin 1024) (f : Fin 1408) : wIn e h w (ix2 k f) = w (ix3 e k f) := by
  pointwise [wIn]

theorem wOut_apply (e : Fin 8) (h : S8x1408x1024.Slices ![e.val, 0, 0] S1x1408x1024) (w : FVec Ideal S8x1408x1024 .f32)
    (f : Fin 1408) (d : Fin 1024) : wOut e h w (ix2 f d) = w (ix3 e f d) := by
  pointwise [wOut]

/-- One expert's term of the reference's sum, of whichever expert: its gated unit under its column of the weights. -/
def termOf (e : Fin 8) (hi : S8x1024x1408.Slices ![e.val, 0, 0] S1x1024x1408)
    (ho : S8x1408x1024.Slices ![e.val, 0, 0] S1x1408x1024) (hc : S4x4096x8.Slices ![0, 0, e.val] S4x4096x1) :
    FVec Ideal S4x4096x1024 .f32 :=
  let one : FVec Ideal S4x4096x1408 .f32 :=
    broadcastInDim S4x4096x1408 ![] bcast_S_S4x4096x1408 (constant (F := Ideal) S_ .f32 0x3F800000#32)
  let gate : FVec Ideal S4x4096x1408 .f32 :=
    Host.dotGeneral (φ₁ := .f32) (φ₂ := .f32) dot_S4x4096x1024_S1024x1408_S4x4096x1408_2_0_01_1_n_n none (val_main_v12 x g)
      (wIn e hi wg)
  let up : FVec Ideal S4x4096x1408 .f32 :=
    Host.dotGeneral (φ₁ := .f32) (φ₂ := .f32) dot_S4x4096x1024_S1024x1408_S4x4096x1408_2_0_01_1_n_n none (val_main_v12 x g)
      (wIn e hi wu)
  let unit : FVec Ideal S4x4096x1024 .f32 :=
    Host.dotGeneral (φ₁ := .f32) (φ₂ := .f32) dot_S4x4096x1408_S1408x1024_S4x4096x1024_2_0_01_1_n_n none
      (mulf (mulf gate (Host.divf one (addf one (Host.exp (Host.negf gate))))) up) (wOut e ho wd)
  mulf (broadcastInDim S4x4096x1024 ![0, 1, 2] bcast_S4x4096x1_S4x4096x1024_0_1_2
    (extractStridedSlice S4x4096x1 ![0, 0, e.val] (val_main_v26 x g r) hc)) unit

theorem termOf_apply (e : Fin 8) (hi : S8x1024x1408.Slices ![e.val, 0, 0] S1x1024x1408)
    (ho : S8x1408x1024.Slices ![e.val, 0, 0] S1x1408x1024) (hc : S4x4096x8.Slices ![0, 0, e.val] S4x4096x1)
    (b : Fin 4) (s : Fin 4096) (d : Fin 1024) :
    termOf x g r wg wu wd e hi ho hc (ix3 b s d)
      = (expert x g wg wu wd b s e d * val_main_v26 x g r (ix3 b s e) : EReal) := by
  unfold termOf
  dsimp only
  generalize val_main_v26 x g r = w
  pointwise [dot_S4x4096x1024_S1024x1408_S4x4096x1408_2_0_01_1_n_n,
    dot_S4x4096x1408_S1408x1024_S4x4096x1024_2_0_01_1_n_n]
  simp only [h_apply, wIn_apply, wOut_apply]
  exact mul_comm (_ : EReal) _

/-- The reference's result at a row. -/
theorem ref_apply (i : Fin 16384) (d : Fin 1024) (i₁ i₂ : Fin 8)
    (hb : Best (score x g r (seqOf i) (posOf i)) i₁ i₂) (hr : ∃ a : ℝ, score x g r (seqOf i) (posOf i) i₁ = a) :
    val_main_v149 x g r wg wu wd (ix2 i d)
      = (x (ix3 (seqOf i) (posOf i) d) + accum (fun n => if h : n < 8 then
          expert x g wg wu wd (seqOf i) (posOf i) ⟨n, h⟩ d * weight (score x g r (seqOf i) (posOf i)) i₁ i₂ ⟨n, h⟩ else 0) 8
          : EReal) := by
  unfold val_main_v149
  refine (flat_apply (D := 1024) _ _ i d).trans ?_
  generalize seqOf i = b at *
  generalize posOf i = s at *
  pointwise [val_main_v148, val_main_v42, val_main_v57, val_main_v72, val_main_v87, val_main_v102, val_main_v117, val_main_v132, val_main_v147, val_main_v27, val_main_cst_5]
  have t := termOf_apply x g r wg wu wd
  have w := weight_apply x g r b s i₁ i₂ hb hr
  rw [show val_main_v41 x g r wg wu wd (ix3 b s d) = _ from
      t 0 slices_S8x1024x1408_S1x1024x1408_0_0_0 slices_S8x1408x1024_S1x1408x1024_0_0_0
      slices_S4x4096x8_S4x4096x1_0_0_0 b s d,
    show val_main_v56 x g r wg wu wd (ix3 b s d) = _ from
      t 1 slices_S8x1024x1408_S1x1024x1408_1_0_0 slices_S8x1408x1024_S1x1408x1024_1_0_0
      slices_S4x4096x8_S4x4096x1_0_0_1 b s d,
    show val_main_v71 x g r wg wu wd (ix3 b s d) = _ from
      t 2 slices_S8x1024x1408_S1x1024x1408_2_0_0 slices_S8x1408x1024_S1x1408x1024_2_0_0
      slices_S4x4096x8_S4x4096x1_0_0_2 b s d,
    show val_main_v86 x g r wg wu wd (ix3 b s d) = _ from
      t 3 slices_S8x1024x1408_S1x1024x1408_3_0_0 slices_S8x1408x1024_S1x1408x1024_3_0_0
      slices_S4x4096x8_S4x4096x1_0_0_3 b s d,
    show val_main_v101 x g r wg wu wd (ix3 b s d) = _ from
      t 4 slices_S8x1024x1408_S1x1024x1408_4_0_0 slices_S8x1408x1024_S1x1408x1024_4_0_0
      slices_S4x4096x8_S4x4096x1_0_0_4 b s d,
    show val_main_v116 x g r wg wu wd (ix3 b s d) = _ from
      t 5 slices_S8x1024x1408_S1x1024x1408_5_0_0 slices_S8x1408x1024_S1x1408x1024_5_0_0
      slices_S4x4096x8_S4x4096x1_0_0_5 b s d,
    show val_main_v131 x g r wg wu wd (ix3 b s d) = _ from
      t 6 slices_S8x1024x1408_S1x1024x1408_6_0_0 slices_S8x1408x1024_S1x1408x1024_6_0_0
      slices_S4x4096x8_S4x4096x1_0_0_6 b s d,
    show val_main_v146 x g r wg wu wd (ix3 b s d) = _ from
      t 7 slices_S8x1024x1408_S1x1024x1408_7_0_0 slices_S8x1408x1024_S1x1408x1024_7_0_0
      slices_S4x4096x8_S4x4096x1_0_0_7 b s d]
  simp only [w]
  simp only [accum, zero_add]
  rfl

end Cert.Proof.ExpertsRef

end
-- ==== Proof.Experts.lean ====
/-
  The mixture of experts: under finite norm weights and router every score is a real number, so the kernel's weights are the
  reference's, and the two results are equal.
-/
module

public import proofs.«01_k».proof.Defs
public import proofs.«01_k».proof.Proof.Gen.Pre_finite
public import proofs.«01_k».proof.Proof.ExpertsRun
public import proofs.«01_k».proof.Proof.ExpertsRef

@[expose] public section

noncomputable section

namespace Cert.Proof.ExpertsEq

open Cert.KernelIdeal Cert.KernelIdeal.Gen Cert.KernelIdeal.Value
open Cert.Proof.Tokens Cert.Proof.Route Cert.Proof.Layer Cert.Proof.Experts
open Idealize.ShloMosaic Idealize.ShloMosaic.TcCoe Idealize.SL.Sem Idealize.ShloMosaic.StableHlo

/-! ### Real numbers -/

/-- An extended real that is a real number. -/
def IsReal (x : EReal) : Prop := ∃ a : ℝ, x = a

theorem IsReal.mul {x y : EReal} : IsReal x → IsReal y → IsReal (x * y) := by
  rintro ⟨a, rfl⟩ ⟨b, rfl⟩
  exact ⟨a * b, (EReal.coe_mul a b).symm⟩

theorem IsReal.sum {n : ℕ} {f : Fin n → EReal} (h : ∀ k, IsReal (f k)) : IsReal (∑ k, f k) := by
  choose a ha using h
  refine ⟨∑ k, a k, ?_⟩
  simp only [ha]
  exact (map_sum (⟨⟨fun r : ℝ => (r : EReal), EReal.coe_zero⟩, EReal.coe_add⟩ : ℝ →+ EReal) a Finset.univ).symm

theorem isReal_of_ne {x : EReal} (ht : x ≠ ⊤) (hb : x ≠ ⊥) : IsReal x := ⟨x.toReal, (EReal.coe_toReal ht hb).symm⟩

theorem mul_self_nonneg' (x : EReal) : 0 ≤ x * x := by
  rcases le_total 0 x with h | h
  · exact mul_nonneg h h
  · exact EReal.mul_nonneg_iff.mpr (Or.inr ⟨h, h⟩)

/-- The width, and the number added to the mean square. -/
theorem width : Ideal.ofBits .f32 1149239296#32 = ((1024 : ℝ) : EReal) := by
  simp [Ideal.ofBits, Ideal.ieee, -EReal.coe_mul]; norm_num

theorem small : ∃ e : ℝ, 0 < e ∧ Ideal.ofBits .f32 897988541#32 = (e : EReal) := by
  refine ⟨_, ?_, by simp [Ideal.ofBits, Ideal.ieee, -EReal.coe_mul]; rfl⟩
  positivity

/-- A normed row is real whatever the row: one with an infinity is scaled by zero. -/
theorem isReal_normed (x g : Fin 1024 → EReal) (hg : ∀ k, IsReal (g k)) (d : Fin 1024) :
    IsReal (normed 1149239296#32 x g d) := by
  obtain ⟨e, he, hE⟩ := small
  unfold normed
  rw [width, hE, Ideal.div_coe (by norm_num)]
  by_cases hx : ∀ k, IsReal (x k)
  · refine IsReal.mul (IsReal.mul (hx d) ?_) (hg d)
    choose a ha using hx
    have hs : (∑ k, x k * x k) = ((∑ k, a k * a k : ℝ) : EReal) := by
      simp only [ha, ← EReal.coe_mul]
      exact (map_sum (⟨⟨fun r : ℝ => (r : EReal), EReal.coe_zero⟩, EReal.coe_add⟩ : ℝ →+ EReal) (fun k => a k * a k) Finset.univ).symm
    have hp : 0 < (∑ k, a k * a k) * (1 / 1024) + e := by
      have : 0 ≤ ∑ k, a k * a k := Finset.sum_nonneg fun k _ => mul_self_nonneg _
      positivity
    rw [hs, ← EReal.coe_mul, ← EReal.coe_add, Ideal.rsqrt_coe, if_neg (not_lt.mpr hp.le), if_neg hp.ne']
    exact ⟨_, rfl⟩
  · obtain ⟨k, hk⟩ := not_forall.mp hx
    have hkk : x k * x k = ⊤ := by
      rcases eq_or_ne (x k) ⊤ with h | h
      · rw [h]; rfl
      · rcases eq_or_ne (x k) ⊥ with h' | h'
        · rw [h']; rfl
        · exact absurd (isReal_of_ne h h') hk
    have hs : (∑ k, x k * x k) = ⊤ := by
      refine top_unique ?_
      rw [← hkk]
      exact Finset.single_le_sum (f := fun k => x k * x k) (fun j _ => mul_self_nonneg' (x j)) (Finset.mem_univ k)
    rw [hs, EReal.top_mul_coe_of_pos (by norm_num), EReal.top_add_coe]
    have : Ideal.rsqrt (⊤ : EReal) = 0 := rfl
    rw [this, mul_zero, zero_mul]
    exact ⟨0, rfl⟩

theorem isReal_score (x : (⟨3, ![4, 4096, 1024]⟩ : Shape).Idx → EReal) (g : (⟨1, ![1024]⟩ : Shape).Idx → EReal)
    (r : (⟨2, ![1024, 8]⟩ : Shape).Idx → EReal) (hg : ∀ k : Fin 1024, IsReal (g (ix1 k)))
    (hr : ∀ (k : Fin 1024) (e : Fin 8), IsReal (r (ix2 k e))) (b : Fin 4) (s : Fin 4096) (e : Fin 8) :
    IsReal (score x g r b s e) :=
  IsReal.sum fun k => IsReal.mul (isReal_normed _ _ hg k) (hr k e)

/-! ### The precondition -/

theorem isReal_of_abs_lt {x : EReal} (h : max x (-x) < ⊤) : IsReal x := by
  refine isReal_of_ne ?_ ?_
  · rintro rfl; simp at h
  · rintro rfl; simp at h

/-- The pattern of the infinity. -/
theorem posInf : Ideal.ofBits .f32 2139095040#32 = ⊤ := by simp [Ideal.ofBits, Ideal.ieee]

theorem both {p q : Prop} [Decidable p] [Decidable q]
    (h : IntOp.andi (BitVec.ofBool (decide p)) (BitVec.ofBool (decide q)) = 1#1) : p ∧ q := by
  by_cases hp : p <;> by_cases hq : q
  · exact ⟨hp, hq⟩
  all_goals
    simp only [hp, hq, decide_true, decide_false] at h
    exact absurd h (by decide)

variable (m : (ℓ : Loc nD τ sig) → Buf (Elt Ideal) ℓ)

theorem finite_args (hpre : Cert.Pre_KernelIdeal_finite m) (c : Dev nD) :
    (∀ k : Fin 1024, IsReal (aG m c (ix1 k))) ∧ ∀ (k : Fin 1024) (e : Fin 8), IsReal (aR m c (ix2 k e)) := by
  have h (k : Fin 1024) (e : Fin 8) : Cert.Pre_finite.fn (F := Ideal) (aX m c) (aG m c) (aR m c) (aWg m c) (aWu m c)
      (aWd m c) (ix2 k e) = 1#1 := congrFun (hpre c) (ix2 k e)
  generalize aG m c = g at *
  generalize aR m c = r at *
  pointwise [Cert.Pre_finite.fn] at h
  have h' (k : Fin 1024) (e : Fin 8) : IsReal (g (ix1 k)) ∧ IsReal (r (ix2 k e)) := by
    obtain ⟨h1, h2⟩ := both (h k e)
    rw [posInf] at h1 h2
    exact ⟨isReal_of_abs_lt h1, isReal_of_abs_lt h2⟩
  exact ⟨fun k => (h' k 0).1, fun k e => (h' k e).2⟩

/-- The result arrays agree. -/
theorem result_eq (hpre : Cert.Pre_KernelIdeal_finite m) (c : Dev nD) :
    G6 m c = Cert.ReferenceIdeal.Read.val_main_v149 (aX m c) (aG m c) (aR m c) (aWg m c) (aWu m c) (aWd m c) := by
  obtain ⟨hg, hr⟩ := finite_args m hpre c
  funext i
  obtain ⟨R, d, rfl⟩ : ∃ (R : Fin 16384) (d : Fin 1024), i = ix2 R d := ⟨i 0, i 1, eq_ix2 i⟩
  obtain ⟨i₁, i₂, hb⟩ := exists_best (scoreAt m c R)
  have hreal (e : Fin 8) : IsReal (scoreAt m c R e) := isReal_score _ _ _ hg hr _ _ e
  rw [G_apply, Cert.Proof.ExpertsRef.ref_apply _ _ _ _ _ _ R d i₁ i₂ hb (hreal i₁)]
  refine congrArg (aX m c (ix3 (seqOf R) (posOf R) d) + · : EReal → EReal) (accum_congr _ _ 8 fun n hn => ?_)
  unfold termAt gateAt
  rw [dif_pos hn, dif_pos hn, first_max hb, first_index hb, laneGate_eq hb fun j => by
    obtain ⟨a, ha⟩ := hreal j
    rw [ha]; exact EReal.coe_ne_bot a]
  rfl

theorem algebraic : Cert.algebraic_KernelIdeal_ReferenceIdeal_pre_finite := by
  intro m ρ m' ρ' hpre hagree
  refine ⟨_, run m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5⟩ := hagree c
  rw [(h c).1, result_eq m hpre c]
  unfold aX aG aR aWg aWu aWd
  rw [← e0, ← e1, ← e2, ← e3, ← e4, ← e5]
  exact Cert.ReferenceIdeal.Read.val_main_v149_eq _

end Cert.Proof.ExpertsEq

end
-- ==== Proof.SampleTokens.lean ====
/- The rows of the sample: 32 sequences of 8 rows, worked through as 256 rows. Row `r` is row `r % 8` of sequence `r / 8`.
   This module reads an array [32, 8, D] flattened to [256, D], and the normed rows. -/
module

public import proofs.«01_k».proof.Proof.Tokens
public import proofs.«01_k».proof.Proof.ExpertsLayer
public import proofs.«01_k».proof.Proof.Gen.Reference9Ideal.Read

@[expose] public section

noncomputable section

namespace Cert.Proof.SampleTokens

open Cert.Proof.Layer
open Cert.Proof.Tokens (flat_of)
open Idealize.ShloMosaic Idealize.ShloMosaic.StableHlo

/-- The sequence of row `r`. -/
def seqOf (r : Fin 256) : Fin 32 := ⟨r.val / 8, by omega⟩

/-- The place of row `r` in its sequence. -/
def posOf (r : Fin 256) : Fin 8 := ⟨r.val % 8, by omega⟩

/-- `flat_of` for the sample. -/
theorem flat_apply {D : ℕ} {α : Type} (y : Shape.Idx ⟨3, ![32, 8, D]⟩ → α)
    (h : Shape.ShapeCasts ⟨3, ![32, 8, D]⟩ ⟨2, ![256, D]⟩) (r : Fin 256) (d : Fin D) :
    shapeCast ⟨2, ![256, D]⟩ y h (ix2 r d) = y (ix3 (seqOf r) (posOf r) d) :=
  flat_of y h _ _ r (by show r.val / 8 * 8 + r.val % 8 = r.val; omega) d

section
open Cert.Reference9Ideal.Read Cert.Reference9Ideal

/-- The references' normed rows. -/
theorem h_apply (x : Vec Ideal S32x8x1024 .f32) (g : Vec Ideal S1024 .f32) (b : Fin 32) (s : Fin 8) (d : Fin 1024) :
    val_main_v12 x g (ix3 b s d) = hrow x g b s d := by
  pointwise [val_main_v12, val_main_v9, val_main_v11, val_main_v8, val_main_v7, val_main_v6, val_main_v5, val_main_v4,
    val_main_v3, val_main_v2, val_main_v1, val_main_v0, val_main_v10, val_main_cst, val_main_cst_0, val_main_cst_1]
  rfl

end

end Cert.Proof.SampleTokens

end
-- ==== Proof.Embed.lean ====
/- The per-layer embeddings (programs 2 and 9). A grid point takes a block of rows, 512 on the batch and all 256 on the sample, and
   layer 3's embeddings of the same rows; it multiplies the projected embeddings by a gate read from the normed rows, and adds the
   rows. Of each program this module reads the block a point writes and the reference at a row, both as `gated`. -/
module

public import proofs.«01_k».proof.Defs
public import proofs.«01_k».proof.Proof.SampleTokens
public import proofs.«01_k».proof.Proof.ExpertsRef
public import proofs.«01_k».proof.Proof.Gen.Kernel2Ideal.Value
public import proofs.«01_k».proof.Proof.Gen.Reference2Ideal.Read
public import proofs.«01_k».proof.Proof.Gen.Kernel9Ideal.Value
public import proofs.«01_k».proof.Proof.Gen.Reference9Ideal.Read
public import Idealize.ShloMosaic.Lib.Pipeline.ValueKit.Acc
public import Idealize.ShloMosaic.Lib.Pipeline.ValueKit.Geometry

@[expose] public section

noncomputable section

namespace Cert.Proof.Embed

open Cert.Proof.Tokens (place one_row)
open Cert.Proof.Layer
open Idealize.ShloMosaic Idealize.ShloMosaic.TcCoe Idealize.SL.Sem Idealize.ShloMosaic.StableHlo

/-- One entry of the result: the row's entry plus the gate times the projected embedding. -/
def gated (h : Fin 1024 → EReal) (p : Fin 256 → EReal) (w : (⟨2, ![1024, 1024]⟩ : Shape).Idx → EReal)
    (q : (⟨2, ![256, 1024]⟩ : Shape).Idx → EReal) (x : Fin 1024 → EReal) (d : Fin 1024) : EReal :=
  x d + Ideal.logistic (∑ k, h k * w (ix2 k d)) * ∑ j, p j * q (ix2 j d)

/-- `Tokens.flat_of` for arrays with an axis of layers in front. -/
theorem flat_layers {L B S N D : ℕ} {α : Type} (y : Shape.Idx ⟨4, ![L, B, S, D]⟩ → α)
    (h : Shape.ShapeCasts ⟨4, ![L, B, S, D]⟩ ⟨3, ![L, N, D]⟩) (hN : B * S = N) (l : Fin L) (b : Fin B) (s : Fin S) (r : Fin N)
    (e : b.val * S + s.val = r.val) (d : Fin D) : shapeCast ⟨3, ![L, N, D]⟩ y h (ix3 l r d) = y (ix4 l b s d) :=
  shapeCast_apply y h _ _ (by
    rewrite [Shape.rowMajor_val_four, Shape.rowMajor_val_three]
    show ((l.val * B + b.val) * S + s.val) * D + d.val = (l.val * N + r.val) * D + d.val
    rw [show (l.val * B + b.val) * S + s.val = l.val * N + r.val from by rw [Nat.add_mul, Nat.mul_assoc, hN, Nat.add_assoc, e]])

/-! ## On the batch -/

section
open Cert.Reference2Ideal.Read Cert.Reference2Ideal
open Tokens (seqOf posOf)

theorem ref_apply (x : Vec Ideal S4x4096x1024 .f32) (p : Vec Ideal S4x4x4096x256 .f32) (g : Vec Ideal S1024 .f32)
    (w : Vec Ideal S1024x1024 .f32) (q : Vec Ideal S256x1024 .f32) (R : Fin 16384) (d : Fin 1024) :
    val_main_v25 x p g w q (ix2 R d) = gated (hrow x g (seqOf R) (posOf R)) (fun j => p (ix4 (3 : Fin 4) (seqOf R) (posOf R) j))
      w q (fun d => x (ix3 (seqOf R) (posOf R) d)) d := by
  refine (Tokens.flat_apply (D := 1024) _ _ R d).trans ?_
  pointwise [val_main_v24, val_main_v23, val_main_v22, val_main_v21, val_main_v20, val_main_v19, val_main_v18,
    val_main_v17, val_main_v16, val_main_v15, val_main_v14, val_main_v13, val_main_cst_2, val_main_cst_3,
    dot_S4x4096x1024_S1024x1024_S4x4096x1024_2_0_01_1_n_n, dot_S4x4096x256_S256x1024_S4x4096x1024_2_0_01_1_n_n]
  simp only [show ∀ k, val_main_v12 x g (ix3 (seqOf R) (posOf R) k) = hrow x g (seqOf R) (posOf R) k from ExpertsRef.h_apply x g _ _]
  rfl

end

section
open Cert.Kernel2Ideal Cert.Kernel2Ideal.Gen Cert.Kernel2Ideal.Value
open Tokens (seqOf posOf)

theorem out_apply (x : Vec Ideal S512x1024 .f32) (p : Vec Ideal S1x512x256 .f32) (g : Vec Ideal S1x1024 .f32)
    (w : Vec Ideal S1024x1024 .bf16) (q : Vec Ideal S256x1024 .bf16) (r : Fin 512) (d : Fin 1024) :
    out0_5 x p g w q (ix2 r d)
      = gated (normed 1149239296#32 (fun k : Fin 1024 => x (ix2 r k)) (fun k : Fin 1024 => g (ix2 (0 : Fin 1) k)))
          (fun j => p (ix3 (0 : Fin 1) r j)) w q (fun d => x (ix2 r d)) d := by
  frame_out
  pointwise [k0_pay1, dot_S512x1024_S1024x1024_S512x1024_1_0_0_1_n_n, dot_S512x256_S256x1024_S512x1024_1_0_0_1_n_n]
  rfl

variable (m : (ℓ : Loc nD τ sig) → Buf (Elt Ideal) ℓ)

theorem idx : ∀ t : Fin cfg0.N, win0_0.index t = ![t.val, 0] ∧ win0_1.index t = ![3, t.val, 0] ∧ win0_2.index t = ![0, 0]
    ∧ win0_3.index t = ![0, 0] ∧ win0_4.index t = ![0, 0] ∧ win0_5.index t = ![t.val, 0] ∧ (t.val + 1) * 512 ≤ 16384 :=
  (by decide +kernel : ∀ t : Fin grid0.N, _)

/-- The region finds the rows, the embeddings of every layer as rows, the gain, and the weights as they were given. -/
theorem found (c : Dev nD) :
    V m c main_v0 = shapeCast _ (m ((c : Thread nD τ).loc main_arg0)) shapeCasts_S4x4096x1024_S16384x1024
    ∧ V m c main_v1 = shapeCast _ (m ((c : Thread nD τ).loc main_arg1)) shapeCasts_S4x4x4096x256_S4x16384x256
    ∧ V m c main_v4 = shapeCast _ (m ((c : Thread nD τ).loc main_arg2)) shapeCasts_S1024_S1x1024
    ∧ V m c main_v2 = (m ((c : Thread nD τ).loc main_arg3) : Vec Ideal S1024x1024 .f32)
    ∧ V m c main_v3 = (m ((c : Thread nD τ).loc main_arg4) : Vec Ideal S256x1024 .f32) := by
  refine ⟨?_, ?_, ?_, ?_, ?_⟩ <;> (dsimp only [V, hostOps0]; after_results <;> rfl)

theorem block_x (c : Dev nD) (t : Fin cfg0.N) (r : Fin 512) (d : Fin 1024) (h : (t.val + 1) * 512 ≤ 16384) :
    iblk m c 0 t (ix2 r d) = m ((c : Thread nD τ).loc main_arg0) (ix3 (seqOf (place 512 t.val r h)) (posOf (place 512 t.val r h)) d) := by
  obtain ⟨i0, -⟩ := idx t
  refine (congrFun (found m c).1 _).trans ((congrArg _ ?_).trans (Tokens.flat_apply _ _ (place 512 t.val r h) d)); blk_ext [i0, place]

theorem final (c : Dev nD) : (dats m 0 c).arrAt 5 cfg0.N = Cert.Reference2Ideal.Read.val_main_v25
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t _ y => ?_
  obtain ⟨r, d, rfl⟩ : ∃ (r : Fin 512) (d : Fin 1024), y = ix2 r d := ⟨y 0, y 1, eq_ix2 y⟩
  obtain ⟨i0, i1, i2, i3, i4, i5, ht⟩ := idx t
  obtain ⟨-, fp, fg, fw, fq⟩ := found m c
  blk_simp
  rw [after0_5, out_apply, show (win0_5.blk t).view.emb (ix2 r d) = ix2 (place 512 t.val r ht) d from by blk_ext [i5, place], ref_apply]
  unfold hrow
  congr 1
  · congr 1 <;> funext k
    · exact block_x m c t r k ht
    · refine (congrFun fg _).trans ((congrArg _ ?_).trans (one_row _ _ k)); blk_ext [i2]
  · funext j
    refine (congrFun fp _).trans ((congrArg _ ?_).trans (flat_layers _ _ rfl 3 (seqOf (place 512 t.val r ht))
      (posOf (place 512 t.val r ht)) (place 512 t.val r ht) (Nat.div_add_mod' _ 4096) j)); blk_ext [i1, place]
  · funext y; refine (congrFun fw _).trans (congrArg _ ?_); blk_ext [i3]
  · funext y; refine (congrFun fq _).trans (congrArg _ ?_); blk_ext [i4]
  · funext d; exact block_x m c t r d ht

theorem algebraic : Cert.algebraic_Kernel2Ideal_Reference2Ideal := by
  intro m ρ m' ρ' _ hagree
  refine ⟨_, run_blocks m ρ, ?_⟩
  refine (θ_run Cert.Reference2Ideal.defs _ _).mono (fun _ h c => ⟨?_, (h c).2⟩) (Cert.Reference2Ideal.Value.run (F := Ideal) m' ρ')
  obtain ⟨e0, e1, e2, e3, e4⟩ := hagree c
  rw [(h c).1, final, e0, e1, e2, e3, e4]
  exact Cert.Reference2Ideal.Read.val_main_v25_eq _ _ _ _ _

end

/-! ## On the sample -/

section
open Cert.Reference9Ideal.Read Cert.Reference9Ideal
open SampleTokens (seqOf posOf)

theorem sample_ref (x : Vec Ideal S32x8x1024 .f32) (p : Vec Ideal S4x32x8x256 .f32) (g : Vec Ideal S1024 .f32)
    (w : Vec Ideal S1024x1024 .f32) (q : Vec Ideal S256x1024 .f32) (R : Fin 256) (d : Fin 1024) :
    val_main_v25 x p g w q (ix2 R d) = gated (hrow x g (seqOf R) (posOf R)) (fun j => p (ix4 (3 : Fin 4) (seqOf R) (posOf R) j))
      w q (fun d => x (ix3 (seqOf R) (posOf R) d)) d := by
  refine (SampleTokens.flat_apply (D := 1024) _ _ R d).trans ?_
  pointwise [val_main_v24, val_main_v23, val_main_v22, val_main_v21, val_main_v20, val_main_v19, val_main_v18,
    val_main_v17, val_main_v16, val_main_v15, val_main_v14, val_main_v13, val_main_cst_2, val_main_cst_3,
    dot_S32x8x1024_S1024x1024_S32x8x1024_2_0_01_1_n_n, dot_S32x8x256_S256x1024_S32x8x1024_2_0_01_1_n_n]
  simp only [SampleTokens.h_apply]
  rfl

end

section
open Cert.Kernel9Ideal Cert.Kernel9Ideal.Gen Cert.Kernel9Ideal.Value
open SampleTokens (seqOf posOf)

theorem sample_out (x : Vec Ideal S256x1024 .f32) (p : Vec Ideal S1x256x256 .f32) (g : Vec Ideal S1x1024 .f32)
    (w : Vec Ideal S1024x1024 .f32) (q : Vec Ideal S256x1024 .f32) (r : Fin 256) (d : Fin 1024) :
    out0_5 x p g w q (ix2 r d)
      = gated (normed 1149239296#32 (fun k : Fin 1024 => x (ix2 r k)) (fun k : Fin 1024 => g (ix2 (0 : Fin 1) k)))
          (fun j => p (ix3 (0 : Fin 1) r j)) w q (fun d => x (ix2 r d)) d := by
  frame_out
  pointwise [k0_pay1, dot_S256x1024_S1024x1024_S256x1024_1_0_0_1_n_n, dot_S256x256_S256x1024_S256x1024_1_0_0_1_n_n]
  rfl

variable (m : (ℓ : Loc nD τ sig) → Buf (Elt Ideal) ℓ)

theorem sample_idx : ∀ t : Fin cfg0.N, win0_0.index t = ![0, 0] ∧ win0_1.index t = ![3, 0, 0] ∧ win0_2.index t = ![0, 0]
    ∧ win0_3.index t = ![0, 0] ∧ win0_4.index t = ![0, 0] ∧ win0_5.index t = ![0, 0] :=
  (by decide +kernel : ∀ t : Fin grid0.N, _)

/-- The region finds the rows, the embeddings of every layer as rows, the gain, and the weights as they were given. -/
theorem sample_found (c : Dev nD) :
    V m c main_v0 = shapeCast _ (m ((c : Thread nD τ).loc main_arg0)) shapeCasts_S32x8x1024_S256x1024
    ∧ V m c main_v1 = shapeCast _ (m ((c : Thread nD τ).loc main_arg1)) shapeCasts_S4x32x8x256_S4x256x256
    ∧ V m c main_v2 = shapeCast _ (m ((c : Thread nD τ).loc main_arg2)) shapeCasts_S1024_S1x1024 := by
  refine ⟨?_, ?_, ?_⟩ <;> (dsimp only [V, hostOps0]; after_results <;> rfl)

theorem sample_block (c : Dev nD) (t : Fin cfg0.N) (r : Fin 256) (d : Fin 1024) :
    iblk m c 0 t (ix2 r d) = m ((c : Thread nD τ).loc main_arg0) (ix3 (seqOf r) (posOf r) d) := by
  obtain ⟨i0, -⟩ := sample_idx t
  refine (congrFun (sample_found m c).1 _).trans ((congrArg _ ?_).trans (SampleTokens.flat_apply _ _ r d)); blk_ext [i0]

theorem sample_final (c : Dev nD) : (dats m 0 c).arrAt 5 cfg0.N = Cert.Reference9Ideal.Read.val_main_v25
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t _ y => ?_
  obtain ⟨r, d, rfl⟩ : ∃ (r : Fin 256) (d : Fin 1024), y = ix2 r d := ⟨y 0, y 1, eq_ix2 y⟩
  obtain ⟨i0, i1, i2, i3, i4, i5⟩ := sample_idx t
  obtain ⟨-, fp, fg⟩ := sample_found m c
  blk_simp
  rw [after0_5, sample_out, show (win0_5.blk t).view.emb (ix2 r d) = ix2 r d from by blk_ext [i5], sample_ref]
  unfold hrow
  congr 1
  · congr 1 <;> funext k
    · exact sample_block m c t r k
    · refine (congrFun fg _).trans ((congrArg _ ?_).trans (one_row _ _ k)); blk_ext [i2]
  · funext j
    refine (congrFun fp _).trans ((congrArg _ ?_).trans (flat_layers _ _ rfl 3 (seqOf r) (posOf r) r (Nat.div_add_mod' _ 8) j))
    blk_ext [i1]
  · funext y; refine (congrFun (V_main_arg3 m c) _).trans (congrArg _ ?_); blk_ext [i3]
  · funext y; refine (congrFun (V_main_arg4 m c) _).trans (congrArg _ ?_); blk_ext [i4]
  · funext d; exact sample_block m c t r d

theorem algebraicSample : Cert.algebraic_Kernel9Ideal_Reference9Ideal := by
  intro m ρ m' ρ' _ hagree
  refine ⟨_, run_blocks m ρ, ?_⟩
  refine (θ_run Cert.Reference9Ideal.defs _ _).mono (fun _ h c => ⟨?_, (h c).2⟩) (Cert.Reference9Ideal.Value.run (F := Ideal) m' ρ')
  obtain ⟨e0, e1, e2, e3, e4⟩ := hagree c
  rw [(h c).1, sample_final, e0, e1, e2, e3, e4]
  exact Cert.Reference9Ideal.Read.val_main_v25_eq _ _ _ _ _

end

end Cert.Proof.Embed

end
-- ==== Proof.Dense.lean ====
/- The dense feed-forward parts (programs 3 and 11). The grid is blocks of rows by the two halves of the 2816 hidden columns, the
   halves innermost: 32 blocks of 512 rows on the batch, the one block of 256 rows on the sample. A block's first point norms the
   rows and starts the sum with the first half's products; its second point adds the second half's and the rows, and writes. What
   the two points write together is `halves`, stated once; of each program this module reads what a point leaves. -/
module

public import proofs.«01_k».proof.Defs
public import proofs.«01_k».proof.Proof.SampleTokens
public import proofs.«01_k».proof.Proof.ExpertsRef
public import proofs.«01_k».proof.Proof.Gen.Kernel3Ideal.Value
public import proofs.«01_k».proof.Proof.Gen.Reference3Ideal.Read
public import proofs.«01_k».proof.Proof.Gen.Kernel11Ideal.Value
public import proofs.«01_k».proof.Proof.Gen.Reference11Ideal.Read
public import Idealize.ShloMosaic.Lib.Pipeline.ValueKit.Acc
public import Idealize.ShloMosaic.Lib.Pipeline.ValueKit.Geometry

@[expose] public section

noncomputable section

namespace Cert.Proof.Dense

open Cert.Proof.Tokens (place one_row)
open Cert.Proof.Layer
open Idealize.ShloMosaic Idealize.ShloMosaic.TcCoe Idealize.SL.Sem Idealize.ShloMosaic.StableHlo

/-- The hidden column which is column `j` of half `q % 2`. -/
def half (q : ℕ) (j : Fin 1408) : Fin 2816 := ⟨q % 2 * 1408 + j.val, by omega⟩

/-- Column `d` of the gated unit of a row, over the hidden columns of half `q % 2`. -/
def unit (a : Fin 1024 → EReal) (wg wu : (⟨2, ![1024, 2816]⟩ : Shape).Idx → EReal) (wd : (⟨2, ![2816, 1024]⟩ : Shape).Idx → EReal)
    (q : ℕ) (d : Fin 1024) : EReal :=
  gatedUnit a (fun k j => wg (ix2 k (half q j))) (fun k j => wu (ix2 k (half q j))) (fun j => wd (ix2 (half q j) d))

/-- Column `d` of a row plus its gated unit. -/
def dense (x a : Fin 1024 → EReal) (wg wu : (⟨2, ![1024, 2816]⟩ : Shape).Idx → EReal) (wd : (⟨2, ![2816, 1024]⟩ : Shape).Idx → EReal)
    (d : Fin 1024) : EReal :=
  x d + gatedUnit a (fun k (j : Fin 2816) => wg (ix2 k j)) (fun k j => wu (ix2 k j)) (fun j => wd (ix2 j d))

/-- A gated unit is the sum of those over the two halves. -/
theorem unit_halves (a : Fin 1024 → EReal) (wg wu : (⟨2, ![1024, 2816]⟩ : Shape).Idx → EReal)
    (wd : (⟨2, ![2816, 1024]⟩ : Shape).Idx → EReal) (n : ℕ) (h : n % 2 = 1) (d : Fin 1024) :
    unit a wg wu wd (n - 1) d + unit a wg wu wd n d
      = gatedUnit a (fun k (j : Fin 2816) => wg (ix2 k j)) (fun k j => wu (ix2 k j)) (fun j => wd (ix2 j d)) := by
  unfold unit gatedUnit
  refine Eq.trans ?_ (Fin.sum_univ_two_halves 1408 1408 rfl _).symm
  have e0 (j : Fin 1408) : half (n - 1) j = ⟨j.val, by omega⟩ := Fin.ext (by show (n - 1) % 2 * 1408 + j.val = j.val; omega)
  have e1 (j : Fin 1408) : half n j = ⟨1408 + j.val, by omega⟩ := Fin.ext (by show n % 2 * 1408 + j.val = 1408 + j.val; omega)
  simp only [e0, e1]

/-- Points which leave `o`, two for each block of `T` rows: the first keeps the rows `H` of its block and their units over the
    first half, the second writes the rows `X` plus what was kept and the units over the second half. -/
theorem halves {Np T M : ℕ} (o : ∀ n, n < Np → ((⟨2, ![T, 1024]⟩ : Shape).Idx → EReal)
      × ((⟨2, ![T, 1024]⟩ : Shape).Idx → EReal) × ((⟨2, ![T, 1024]⟩ : Shape).Idx → EReal))
    (X H : Fin M → Fin 1024 → EReal) (wg wu : (⟨2, ![1024, 2816]⟩ : Shape).Idx → EReal) (wd : (⟨2, ![2816, 1024]⟩ : Shape).Idx → EReal)
    (norm : ∀ t : Fin Np, t.val % 2 = 0 → ∀ (r : Fin T) (k : Fin 1024) (h : (t.val / 2 + 1) * T ≤ M),
      (o t.val t.isLt).2.1 (ix2 r k) = H (place T (t.val / 2) r h) k)
    (first : ∀ t : Fin Np, t.val % 2 = 0 → ∀ (r : Fin T) (d : Fin 1024),
      (o t.val t.isLt).2.2 (ix2 r d) = unit (fun k => (o t.val t.isLt).2.1 (ix2 r k)) wg wu wd t.val d)
    (second : ∀ t : Fin Np, t.val % 2 = 1 → ∀ (r : Fin T) (d : Fin 1024) (h : (t.val / 2 + 1) * T ≤ M),
      (o t.val t.isLt).1 (ix2 r d) = X (place T (t.val / 2) r h) d
        + ((o (t.val - 1) (Nat.lt_of_le_of_lt (Nat.sub_le _ _) t.isLt)).2.2 (ix2 r d)
          + unit (fun k => (o (t.val - 1) (Nat.lt_of_le_of_lt (Nat.sub_le _ _) t.isLt)).2.1 (ix2 r k)) wg wu wd t.val d))
    (t : Fin Np) (h1 : t.val % 2 = 1) (r : Fin T) (d : Fin 1024) (h : (t.val / 2 + 1) * T ≤ M) :
    (o t.val t.isLt).1 (ix2 r d) = dense (X (place T (t.val / 2) r h)) (H (place T (t.val / 2) r h)) wg wu wd d := by
  have hp : t.val - 1 < Np := Nat.lt_of_le_of_lt (Nat.sub_le _ _) t.isLt
  have h0 : (t.val - 1) % 2 = 0 := by omega
  have e : (t.val - 1) / 2 = t.val / 2 := by omega
  have hn : (fun k => (o (t.val - 1) hp).2.1 (ix2 r k)) = H (place T (t.val / 2) r h) := funext fun k =>
    (norm ⟨t.val - 1, hp⟩ h0 r k (e ▸ h)).trans (congrArg (fun R => H R k) (Fin.ext (by
      show (t.val - 1) / 2 * T + r.val = t.val / 2 * T + r.val
      rw [e])))
  rw [second t h1 r d h, first ⟨t.val - 1, hp⟩ h0 r d, hn, unit_halves _ _ _ _ _ h1]
  rfl

/-- An axis of one in front of a weight, then its columns taken. -/
theorem front {K J : ℕ} (w : (⟨2, ![K, J]⟩ : Shape).Idx → EReal) (h : (⟨2, ![K, J]⟩ : Shape).BroadcastsInDim ⟨3, ![1, K, J]⟩ ![1, 2])
    (k : Fin K) (j : Fin J) : broadcastInDim ⟨3, ![1, K, J]⟩ ![1, 2] h w (ix3 (0 : Fin 1) k j) = w (ix2 k j) :=
  broadcastInDim_apply _ h w _ _ fun a => by
    match a with
    | ⟨0, _⟩ => show k.val = if K = 1 then 0 else k.val; split <;> omega
    | ⟨1, _⟩ => show j.val = if J = 1 then 0 else j.val; split <;> omega

/-! ## On the batch -/

theorem ref_apply (x : Vec Ideal Cert.Reference3Ideal.S4x4096x1024 .f32) (g : Vec Ideal Cert.Reference3Ideal.S1024 .f32)
    (wg wu : Vec Ideal Cert.Reference3Ideal.S1024x2816 .f32) (wd : Vec Ideal Cert.Reference3Ideal.S2816x1024 .f32)
    (R : Fin 16384) (d : Fin 1024) : Cert.Reference3Ideal.Read.val_main_v19 x g wg wu wd (ix2 R d)
      = dense (fun d => x (ix3 (Tokens.seqOf R) (Tokens.posOf R) d)) (hrow x g (Tokens.seqOf R) (Tokens.posOf R)) wg wu wd d := by
  open Cert.Reference3Ideal Cert.Reference3Ideal.Read in
  refine (Tokens.flat_apply (D := 1024) _ _ R d).trans ?_
  open Cert.Reference3Ideal Cert.Reference3Ideal.Read in
  pointwise [val_main_v18, val_main_v17, val_main_v16, val_main_v15, val_main_v14, val_main_call0_v5, val_main_call0_v4,
    val_main_call0_cst_0, val_main_call0_v3, val_main_call0_v2, val_main_call0_cst, val_main_call0_v1, val_main_call0_v0,
    val_main_v13, dot_S4x4096x1024_S1024x2816_S4x4096x2816_2_0_01_1_n_n, dot_S4x4096x2816_S2816x1024_S4x4096x1024_2_0_01_1_n_n]
  simp only [show ∀ k, Cert.Reference3Ideal.Read.val_main_v12 x g (ix3 (Tokens.seqOf R) (Tokens.posOf R) k)
    = hrow x g (Tokens.seqOf R) (Tokens.posOf R) k from ExpertsRef.h_apply x g _ _]
  rfl

section
open Cert.Kernel3Ideal Cert.Kernel3Ideal.Gen Cert.Kernel3Ideal.Value
open Tokens (seqOf posOf)

theorem norm_apply (x : Vec Ideal S512x1024 .f32) (g : Vec Ideal S1x1024 .f32) (r : Fin 512) (k : Fin 1024) :
    k0_pay1 x g (ix2 r k) = normed 1149239296#32 (fun k => x (ix2 r k)) (fun k : Fin 1024 => g (ix2 (0 : Fin 1) k)) k := by
  pointwise [k0_pay1]
  rfl

theorem step_apply (a : Vec Ideal S512x1024 .bf16) (wg wu : Vec Ideal S1x1024x1408 .bf16) (wd : Vec Ideal S1x1408x1024 .bf16)
    (acc : Vec Ideal S512x1024 .f32) (r : Fin 512) (d : Fin 1024) : k0_pay3 a wg wu wd acc (ix2 r d)
      = (acc (ix2 r d) + gatedUnit (fun k => a (ix2 r k)) (fun k (j : Fin 1408) => wg (ix3 (0 : Fin 1) k j))
          (fun k j => wu (ix3 (0 : Fin 1) k j)) (fun j => wd (ix3 (0 : Fin 1) j d)) : EReal) := by
  pointwise [k0_pay3, dot_S512x1024_S1024x1408_S512x1408_1_0_0_1_n_n, dot_S512x1408_S1408x1024_S512x1024_1_0_0_1_n_n]
  rfl

theorem zeros_apply (r : Fin 512) (d : Fin 1024) : (k0_pay2 (F := Ideal)) (ix2 r d) = (0 : EReal) := by
  pointwise [k0_pay2]

theorem residual_apply (x acc : Vec Ideal S512x1024 .f32) (r : Fin 512) (d : Fin 1024) :
    k0_pay4 x acc (ix2 r d) = (x (ix2 r d) + acc (ix2 r d) : EReal) := by
  pointwise [k0_pay4]

variable (m : (ℓ : Loc nD τ sig) → Buf (Elt Ideal) ℓ)

theorem idx : ∀ t : Fin cfg0.N, win0_0.index t = ![t.val / 2, 0] ∧ win0_1.index t = ![0, 0] ∧ win0_2.index t = ![0, 0, t.val % 2]
    ∧ win0_3.index t = ![0, 0, t.val % 2] ∧ win0_4.index t = ![0, t.val % 2, 0] ∧ win0_5.index t = ![t.val / 2, 0]
    ∧ (t.val / 2 + 1) * 512 ≤ 16384 ∧ (win0_5.flush t = true → t.val % 2 = 1) :=
  (by decide +kernel : ∀ t : Fin grid0.N, _)

theorem found (c : Dev nD) :
    V m c main_v0 = shapeCast _ (m ((c : Thread nD τ).loc main_arg0)) shapeCasts_S4x4096x1024_S16384x1024
    ∧ V m c main_v7 = shapeCast _ (m ((c : Thread nD τ).loc main_arg1)) shapeCasts_S1024_S1x1024
    ∧ V m c main_v4 = broadcastInDim S1x1024x2816 ![1, 2] bcast_S1024x2816_S1x1024x2816_1_2 (m ((c : Thread nD τ).loc main_arg2) : Vec Ideal S1024x2816 .f32)
    ∧ V m c main_v5 = broadcastInDim S1x1024x2816 ![1, 2] bcast_S1024x2816_S1x1024x2816_1_2 (m ((c : Thread nD τ).loc main_arg3) : Vec Ideal S1024x2816 .f32)
    ∧ V m c main_v6 = broadcastInDim S1x2816x1024 ![1, 2] bcast_S2816x1024_S1x2816x1024_1_2 (m ((c : Thread nD τ).loc main_arg4) : Vec Ideal S2816x1024 .f32) := by
  refine ⟨?_, ?_, ?_, ?_, ?_⟩ <;> (dsimp only [V, hostOps0]; after_results <;> rfl)

/-- The launched rows, and their norms. -/
abbrev rowX (c : Dev nD) (R : Fin 16384) (d : Fin 1024) : EReal := m ((c : Thread nD τ).loc main_arg0) (ix3 (seqOf R) (posOf R) d)
abbrev rowH (c : Dev nD) (R : Fin 16384) : Fin 1024 → EReal :=
  hrow (m ((c : Thread nD τ).loc main_arg0)) (m ((c : Thread nD τ).loc main_arg1)) (seqOf R) (posOf R)

theorem block_x (c : Dev nD) (t : Fin cfg0.N) (r : Fin 512) (d : Fin 1024) (h : (t.val / 2 + 1) * 512 ≤ 16384) :
    iblk m c 0 t (ix2 r d) = rowX m c (place 512 (t.val / 2) r h) d := by
  obtain ⟨i0, -⟩ := idx t
  refine (congrFun (found m c).1 _).trans ((congrArg _ ?_).trans (Tokens.flat_apply _ _ (place 512 (t.val / 2) r h) d)); blk_ext [i0, place]

/-- A point's blocks of the weights are those of its half. -/
theorem block_unit (c : Dev nD) (t : Fin cfg0.N) (a : Fin 1024 → EReal) (d : Fin 1024) :
    gatedUnit a (fun k (j : Fin 1408) => iblk m c 2 t (ix3 (0 : Fin 1) k j)) (fun k j => iblk m c 3 t (ix3 (0 : Fin 1) k j))
      (fun j => iblk m c 4 t (ix3 (0 : Fin 1) j d))
    = unit a (m ((c : Thread nD τ).loc main_arg2)) (m ((c : Thread nD τ).loc main_arg3)) (m ((c : Thread nD τ).loc main_arg4)) t.val d := by
  obtain ⟨-, -, fg, fu, fd⟩ := found m c
  obtain ⟨-, -, i2, i3, i4, -⟩ := idx t
  unfold unit
  congr 1
  · funext k j; refine (congrFun fg _).trans ((congrArg _ ?_).trans (front _ _ k (half t.val j))); blk_ext [i2, half]
  · funext k j; refine (congrFun fu _).trans ((congrArg _ ?_).trans (front _ _ k (half t.val j))); blk_ext [i3, half]
  · funext j; refine (congrFun fd _).trans ((congrArg _ ?_).trans (front _ _ (half t.val j) d)); blk_ext [i4, half]

theorem final (c : Dev nD) : (dats m 0 c).arrAt 5 cfg0.N = Cert.Reference3Ideal.Read.val_main_v19
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  obtain ⟨r, d, rfl⟩ : ∃ (r : Fin 512) (d : Fin 1024), y = ix2 r d := ⟨y 0, y 1, eq_ix2 y⟩
  obtain ⟨-, -, -, -, -, i5, hr, h1⟩ := idx t
  blk_simp
  rw [after0_5, show (win0_5.blk t).view.emb (ix2 r d) = ix2 (place 512 (t.val / 2) r hr) d from by blk_ext [i5, place], ref_apply]
  refine halves (outsAt0 m c) (rowX m c) (rowH m c) _ _ _ (fun t h0 r k h => ?_) (fun t h0 r d => ?_) (fun t h1 r d h => ?_)
    t (h1 hf) r d hr
  · obtain ⟨i0, i1, -⟩ := idx t
    rw [outsAt0_A m c t h0 (by omega)]
    frame_out
    rw [norm_apply]
    unfold rowH hrow
    congr 1 <;> funext j
    · exact block_x m c t r j h
    · refine (congrFun (found m c).2.1 _).trans ((congrArg _ ?_).trans (one_row _ _ j)); blk_ext [i1]
  · rw [outsAt0_A m c t h0 (by omega)]
    frame_out
    rw [step_apply, zeros_apply, zero_add]
    exact block_unit m c t _ d
  · rw [outsAt0_B m c t (by omega) h1]
    frame_out
    rw [residual_apply, step_apply, block_x m c t r d h, block_unit m c t]
    exact congrArg₂ (fun (a acc : Vec Ideal S512x1024 .f32) => (rowX m c (place 512 (t.val / 2) r h) d
        + (acc (ix2 r d) + unit (fun k => a (ix2 r k)) _ _ _ t.val d) : EReal))
      ((Memref.isWhole_whole cc0_scratch0).read_unread _) ((Memref.isWhole_whole cc0_scratch1).read_unread _)

theorem algebraic : Cert.algebraic_Kernel3Ideal_Reference3Ideal := by
  intro m ρ m' ρ' _ hagree
  refine ⟨_, run_blocks m ρ, ?_⟩
  refine (θ_run Cert.Reference3Ideal.defs _ _).mono (fun _ h c => ⟨?_, (h c).2⟩) (Cert.Reference3Ideal.Value.run (F := Ideal) m' ρ')
  obtain ⟨e0, e1, e2, e3, e4⟩ := hagree c
  rw [(h c).1, final, ← e0, ← e1, ← e2, ← e3, ← e4]
  exact Cert.Reference3Ideal.Read.val_main_v19_eq _ _ _ _ _

end

/-! ## On the sample -/

theorem sample_ref (x : Vec Ideal Cert.Reference11Ideal.S32x8x1024 .f32) (g : Vec Ideal Cert.Reference11Ideal.S1024 .f32)
    (wg wu : Vec Ideal Cert.Reference11Ideal.S1024x2816 .f32) (wd : Vec Ideal Cert.Reference11Ideal.S2816x1024 .f32)
    (R : Fin 256) (d : Fin 1024) : Cert.Reference11Ideal.Read.val_main_v19 x g wg wu wd (ix2 R d)
      = dense (fun d => x (ix3 (SampleTokens.seqOf R) (SampleTokens.posOf R) d))
          (hrow x g (SampleTokens.seqOf R) (SampleTokens.posOf R)) wg wu wd d := by
  refine (SampleTokens.flat_apply (D := 1024) _ _ R d).trans ?_
  open Cert.Reference11Ideal Cert.Reference11Ideal.Read in
  pointwise [val_main_v18, val_main_v17, val_main_v16, val_main_v15, val_main_v14, val_main_call0_v5, val_main_call0_v4,
    val_main_call0_cst_0, val_main_call0_v3, val_main_call0_v2, val_main_call0_cst, val_main_call0_v1, val_main_call0_v0,
    val_main_v13, dot_S32x8x1024_S1024x2816_S32x8x2816_2_0_01_1_n_n, dot_S32x8x2816_S2816x1024_S32x8x1024_2_0_01_1_n_n]
  simp only [show ∀ k, Cert.Reference11Ideal.Read.val_main_v12 x g (ix3 (SampleTokens.seqOf R) (SampleTokens.posOf R) k)
    = hrow x g (SampleTokens.seqOf R) (SampleTokens.posOf R) k from SampleTokens.h_apply x g _ _]
  rfl

section
open Cert.Kernel11Ideal Cert.Kernel11Ideal.Gen Cert.Kernel11Ideal.Value
open SampleTokens (seqOf posOf)

theorem sample_norm (x : Vec Ideal S256x1024 .f32) (g : Vec Ideal S1x1024 .f32) (r : Fin 256) (k : Fin 1024) :
    k0_pay1 x g (ix2 r k) = normed 1149239296#32 (fun k => x (ix2 r k)) (fun k : Fin 1024 => g (ix2 (0 : Fin 1) k)) k := by
  pointwise [k0_pay1]
  rfl

theorem sample_step (a : Vec Ideal S256x1024 .f32) (wg wu : Vec Ideal S1x1024x1408 .f32) (wd : Vec Ideal S1x1408x1024 .f32)
    (acc : Vec Ideal S256x1024 .f32) (r : Fin 256) (d : Fin 1024) : k0_pay3 a wg wu wd acc (ix2 r d)
      = (acc (ix2 r d) + gatedUnit (fun k => a (ix2 r k)) (fun k (j : Fin 1408) => wg (ix3 (0 : Fin 1) k j))
          (fun k j => wu (ix3 (0 : Fin 1) k j)) (fun j => wd (ix3 (0 : Fin 1) j d)) : EReal) := by
  pointwise [k0_pay3, dot_S256x1024_S1024x1408_S256x1408_1_0_0_1_n_n, dot_S256x1408_S1408x1024_S256x1024_1_0_0_1_n_n]
  rfl

theorem sample_zeros (r : Fin 256) (d : Fin 1024) : (k0_pay2 (F := Ideal)) (ix2 r d) = (0 : EReal) := by
  pointwise [k0_pay2]

theorem sample_residual (x acc : Vec Ideal S256x1024 .f32) (r : Fin 256) (d : Fin 1024) :
    k0_pay4 x acc (ix2 r d) = (x (ix2 r d) + acc (ix2 r d) : EReal) := by
  pointwise [k0_pay4]

variable (m : (ℓ : Loc nD τ sig) → Buf (Elt Ideal) ℓ)

theorem sample_idx : ∀ t : Fin cfg0.N, win0_0.index t = ![t.val / 2, 0] ∧ win0_1.index t = ![0, 0]
    ∧ win0_2.index t = ![0, 0, t.val % 2] ∧ win0_3.index t = ![0, 0, t.val % 2] ∧ win0_4.index t = ![0, t.val % 2, 0]
    ∧ win0_5.index t = ![t.val / 2, 0] ∧ (t.val / 2 + 1) * 256 ≤ 256 ∧ (win0_5.flush t = true → t.val % 2 = 1) :=
  (by decide +kernel : ∀ t : Fin grid0.N, _)

theorem sample_found (c : Dev nD) :
    V m c main_v0 = shapeCast _ (m ((c : Thread nD τ).loc main_arg0)) shapeCasts_S32x8x1024_S256x1024
    ∧ V m c main_v4 = shapeCast _ (m ((c : Thread nD τ).loc main_arg1)) shapeCasts_S1024_S1x1024
    ∧ V m c main_v1 = broadcastInDim S1x1024x2816 ![1, 2] bcast_S1024x2816_S1x1024x2816_1_2 (m ((c : Thread nD τ).loc main_arg2) : Vec Ideal S1024x2816 .f32)
    ∧ V m c main_v2 = broadcastInDim S1x1024x2816 ![1, 2] bcast_S1024x2816_S1x1024x2816_1_2 (m ((c : Thread nD τ).loc main_arg3) : Vec Ideal S1024x2816 .f32)
    ∧ V m c main_v3 = broadcastInDim S1x2816x1024 ![1, 2] bcast_S2816x1024_S1x2816x1024_1_2 (m ((c : Thread nD τ).loc main_arg4) : Vec Ideal S2816x1024 .f32) := by
  refine ⟨?_, ?_, ?_, ?_, ?_⟩ <;> (dsimp only [V, hostOps0]; after_results <;> rfl)

/-- The launched rows, and their norms. -/
abbrev sampleX (c : Dev nD) (R : Fin 256) (d : Fin 1024) : EReal := m ((c : Thread nD τ).loc main_arg0) (ix3 (seqOf R) (posOf R) d)
abbrev sampleH (c : Dev nD) (R : Fin 256) : Fin 1024 → EReal :=
  hrow (m ((c : Thread nD τ).loc main_arg0)) (m ((c : Thread nD τ).loc main_arg1)) (seqOf R) (posOf R)

theorem sample_block (c : Dev nD) (t : Fin cfg0.N) (r : Fin 256) (d : Fin 1024) (h : (t.val / 2 + 1) * 256 ≤ 256) :
    iblk m c 0 t (ix2 r d) = sampleX m c (place 256 (t.val / 2) r h) d := by
  obtain ⟨i0, -⟩ := sample_idx t
  refine (congrFun (sample_found m c).1 _).trans ((congrArg _ ?_).trans (SampleTokens.flat_apply _ _ (place 256 (t.val / 2) r h) d))
  blk_ext [i0, place]

theorem sample_unit (c : Dev nD) (t : Fin cfg0.N) (a : Fin 1024 → EReal) (d : Fin 1024) :
    gatedUnit a (fun k (j : Fin 1408) => iblk m c 2 t (ix3 (0 : Fin 1) k j)) (fun k j => iblk m c 3 t (ix3 (0 : Fin 1) k j))
      (fun j => iblk m c 4 t (ix3 (0 : Fin 1) j d))
    = unit a (m ((c : Thread nD τ).loc main_arg2)) (m ((c : Thread nD τ).loc main_arg3)) (m ((c : Thread nD τ).loc main_arg4)) t.val d := by
  obtain ⟨-, -, fg, fu, fd⟩ := sample_found m c
  obtain ⟨-, -, i2, i3, i4, -⟩ := sample_idx t
  unfold unit
  congr 1
  · funext k j; refine (congrFun fg _).trans ((congrArg _ ?_).trans (front _ _ k (half t.val j))); blk_ext [i2, half]
  · funext k j; refine (congrFun fu _).trans ((congrArg _ ?_).trans (front _ _ k (half t.val j))); blk_ext [i3, half]
  · funext j; refine (congrFun fd _).trans ((congrArg _ ?_).trans (front _ _ (half t.val j) d)); blk_ext [i4, half]

theorem sample_final (c : Dev nD) : (dats m 0 c).arrAt 5 cfg0.N = Cert.Reference11Ideal.Read.val_main_v19
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  obtain ⟨r, d, rfl⟩ : ∃ (r : Fin 256) (d : Fin 1024), y = ix2 r d := ⟨y 0, y 1, eq_ix2 y⟩
  obtain ⟨-, -, -, -, -, i5, hr, h1⟩ := sample_idx t
  blk_simp
  rw [after0_5, show (win0_5.blk t).view.emb (ix2 r d) = ix2 (place 256 (t.val / 2) r hr) d from by blk_ext [i5, place], sample_ref]
  refine halves (outsAt0 m c) (sampleX m c) (sampleH m c) _ _ _ (fun t h0 r k h => ?_) (fun t h0 r d => ?_) (fun t h1 r d h => ?_)
    t (h1 hf) r d hr
  · obtain ⟨i0, i1, -⟩ := sample_idx t
    rw [outsAt0_A m c t h0 (by omega)]
    frame_out
    rw [sample_norm]
    unfold sampleH hrow
    congr 1 <;> funext j
    · exact sample_block m c t r j h
    · refine (congrFun (sample_found m c).2.1 _).trans ((congrArg _ ?_).trans (one_row _ _ j)); blk_ext [i1]
  · rw [outsAt0_A m c t h0 (by omega)]
    frame_out
    rw [sample_step, sample_zeros, zero_add]
    exact sample_unit m c t _ d
  · rw [outsAt0_B m c t (by omega) h1]
    frame_out
    rw [sample_residual, sample_step, sample_block m c t r d h, sample_unit m c t]
    exact congrArg₂ (fun (a acc : Vec Ideal S256x1024 .f32) => (sampleX m c (place 256 (t.val / 2) r h) d
        + (acc (ix2 r d) + unit (fun k => a (ix2 r k)) _ _ _ t.val d) : EReal))
      ((Memref.isWhole_whole cc0_scratch0).read_unread _) ((Memref.isWhole_whole cc0_scratch1).read_unread _)

theorem algebraicSample : Cert.algebraic_Kernel11Ideal_Reference11Ideal := by
  intro m ρ m' ρ' _ hagree
  refine ⟨_, run_blocks m ρ, ?_⟩
  refine (θ_run Cert.Reference11Ideal.defs _ _).mono (fun _ h c => ⟨?_, (h c).2⟩) (Cert.Reference11Ideal.Value.run (F := Ideal) m' ρ')
  obtain ⟨e0, e1, e2, e3, e4⟩ := hagree c
  rw [(h c).1, sample_final, ← e0, ← e1, ← e2, ← e3, ← e4]
  exact Cert.Reference11Ideal.Read.val_main_v19_eq _ _ _ _ _

end

end Cert.Proof.Dense

end
-- ==== Proof.InProj.lean ====
/- The input projections (programs 4, 5, 12 and 13). The grid goes over blocks of rows and tiles of the weight's columns, the
   tiles innermost. A block's first point norms the rows and keeps them; every point multiplies the kept rows by its tile. The
   batch has 16 blocks of 1024 rows, the sample one block of 256. The hybrid mixer's weight has its columns reordered before the
   call and padded with zeros: its reference reorders and pads the columns of the product. -/
module

public import proofs.«01_k».proof.Defs
public import proofs.«01_k».proof.Proof.SampleTokens
public import proofs.«01_k».proof.Proof.ExpertsRef
public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import Idealize.ShloMosaic.Lib.Pipeline.ValueKit.Acc
public import Idealize.ShloMosaic.Lib.Pipeline.ValueKit.Geometry

@[expose] public section

noncomputable section

namespace Cert.Proof.InProj

open Cert.Proof.Layer
open Cert.Proof.Tokens (place tiles one_row flat_apply seqOf posOf)
open Idealize.ShloMosaic Idealize.ShloMosaic.TcCoe Idealize.SL.Sem Idealize.ShloMosaic.StableHlo

/-! ## The hybrid mixer's, on the batch -/

/-- How the columns of the projection are laid out: the seven parts of the 5648 columns in the order the mixer reads them, and
    112 columns of `z` behind. -/
def laid (z : EReal) (u : Fin 5648 → EReal) (C : Fin 5760) : EReal :=
  if h : C.val < 1024 then u ⟨C.val, by omega⟩
  else if h : C.val - 1024 < 1024 then u ⟨3600 + (C.val - 1024), by omega⟩
  else if h : C.val - 1024 - 1024 < 1024 then u ⟨4624 + (C.val - 1024 - 1024), by omega⟩
  else if h : C.val - 1024 - 1024 - 1024 < 1536 then u ⟨1024 + (C.val - 1024 - 1024 - 1024), by omega⟩
  else if h : C.val - 1024 - 1024 - 1024 - 1536 < 512 then u ⟨2576 + (C.val - 1024 - 1024 - 1024 - 1536), by omega⟩
  else if h : C.val - 1024 - 1024 - 1024 - 1536 - 512 < 512 then u ⟨3088 + (C.val - 1024 - 1024 - 1024 - 1536 - 512), by omega⟩
  else if h : C.val - 1024 - 1024 - 1024 - 1536 - 512 - 512 < 16 then u ⟨2560 + (C.val - 1024 - 1024 - 1024 - 1536 - 512 - 512), by omega⟩
  else z

/-- Products with the columns laid out so are the products laid out so. -/
theorem laid_sum (h : Fin 1024 → EReal) (w : Fin 1024 → Fin 5648 → EReal) (C : Fin 5760) :
    ∑ k, h k * laid 0 (w k) C = laid 0 (fun C' => ∑ k, h k * w k C') C := by
  unfold laid
  split_ifs <;> first | rfl | simp

section
open Cert.Reference4Ideal Cert.Reference4Ideal.Read

/-- The reference's product with the weight, -/
theorem hyb_prod (x : Vec Ideal S4x4096x1024 .f32) (g : Vec Ideal S1024 .f32) (w : Vec Ideal S1024x5648 .f32)
    (b : Fin 4) (s : Fin 4096) (C : Fin 5648) :
    val_main_v13 x g w (ix3 b s C) = ∑ k : Fin 1024, hrow x g b s k * w (ix2 k C) := by
  pointwise [val_main_v13, dot_S4x4096x1024_S1024x5648_S4x4096x5648_2_0_01_1_n_n]
  exact Finset.sum_congr rfl fun k _ => congrArg (· * _) (ExpertsRef.h_apply x g b s k)

/-- and that product's columns laid out. -/
theorem hyb_laid (x : Vec Ideal S4x4096x1024 .f32) (g : Vec Ideal S1024 .f32) (w : Vec Ideal S1024x5648 .f32)
    (b : Fin 4) (s : Fin 4096) (C : Fin 5760) :
    val_main_v22 x g w (ix3 b s C) = laid 0 (fun C' => val_main_v13 x g w (ix3 b s C')) C := by
  unfold val_main_v22 val_main_v14 val_main_v15 val_main_v16 val_main_v17 val_main_v18 val_main_v19 val_main_v20 val_main_v21
    val_main_cst_2
  generalize val_main_v13 x g w = u
  pointwise []
  rfl

/-- The reference's result at a row and a column. -/
theorem hyb_ref (x : Vec Ideal S4x4096x1024 .f32) (g : Vec Ideal S1024 .f32) (w : Vec Ideal S1024x5648 .f32)
    (R : Fin 16384) (C : Fin 5760) :
    val_main_v23 x g w (ix2 R C) = laid 0 (fun C' => ∑ k : Fin 1024, hrow x g (seqOf R) (posOf R) k * w (ix2 k C')) C :=
  (flat_apply (D := 5760) _ _ R C).trans ((hyb_laid x g w _ _ C).trans (congrArg (fun u => laid 0 u C) (funext fun C' => hyb_prod x g w _ _ C')))

end

section
open Cert.Kernel4Ideal Cert.Kernel4Ideal.Gen Cert.Kernel4Ideal.Value

theorem hyb_norm (x : Vec Ideal S1024x1024 .f32) (g : Vec Ideal S1x1024 .f32) (r k : Fin 1024) :
    k0_pay1 x g (ix2 r k) = normed 1149239296#32 (fun k => x (ix2 r k)) (fun k : Fin 1024 => g (ix2 (0 : Fin 1) k)) k := by
  pointwise [k0_pay1]
  rfl

theorem hyb_mul (a : Vec Ideal S1024x1024 .bf16) (w : Vec Ideal S1024x1152 .bf16) (r : Fin 1024) (d : Fin 1152) :
    k0_pay2 a w (ix2 r d) = (∑ k : Fin 1024, a (ix2 r k) * w (ix2 k d) : EReal) := by
  pointwise [k0_pay2, dot_S1024x1024_S1024x1152_S1024x1152_1_0_0_1_n_n]

/-- The weight with its columns reordered and padded. -/
def wcat (w : Vec Ideal S1024x5648 .f32) : Vec Ideal S1024x5760 .f32 :=
  concatenate S1024x5760 1 [⟨S1024x1024, extractStridedSlice S1024x1024 ![0, 0] w slices_S1024x5648_S1024x1024_0_0⟩,
    ⟨S1024x1024, extractStridedSlice S1024x1024 ![0, 3600] w slices_S1024x5648_S1024x1024_0_3600⟩,
    ⟨S1024x1024, extractStridedSlice S1024x1024 ![0, 4624] w slices_S1024x5648_S1024x1024_0_4624⟩,
    ⟨S1024x1536, extractStridedSlice S1024x1536 ![0, 1024] w slices_S1024x5648_S1024x1536_0_1024⟩,
    ⟨S1024x512, extractStridedSlice S1024x512 ![0, 2576] w slices_S1024x5648_S1024x512_0_2576⟩,
    ⟨S1024x512, extractStridedSlice S1024x512 ![0, 3088] w slices_S1024x5648_S1024x512_0_3088⟩,
    ⟨S1024x128, pad S1024x128 ![0, 0] ![0, 112] ![0, 0] (extractStridedSlice S1024x16 ![0, 2560] w slices_S1024x5648_S1024x16_0_2560)
      (sitofp (F := Ideal) .f32 (constantI S_ 32 0#32)) pads_S1024x16_S1024x128_000_01120 h_S_⟩]
    concatenates_S1024x1024_S1024x1024_S1024x1024_S1024x1536_S1024x512_S1024x512_S1024x128_S1024x5760_d1
/-- The reordered weight's columns are the weight's, laid out. -/
theorem wcat_apply (w : Vec Ideal S1024x5648 .f32) (k : Fin 1024) (C : Fin 5760) : wcat w (ix2 k C) = laid 0 (fun C' => w (ix2 k C')) C := by
  have z : (FloatOps.sitofp FTy.f32 0#32 : Ideal .f32) = (0 : EReal) := by
    show ((((0#32 : BitVec 32).toInt : ℤ) : ℝ) : EReal) = 0
    simp
  refine Eq.trans ?_ (congrArg (fun z : EReal => laid z (fun C' => w (ix2 k C')) C) z)
  pointwise [wcat]
  rfl

variable (m : (ℓ : Loc nD τ sig) → Buf (Elt Ideal) ℓ)

theorem hyb_idx : ∀ t : Fin cfg0.N, win0_0.index t = ![t.val / 5, 0] ∧ win0_1.index t = ![0, 0] ∧ win0_2.index t = ![0, t.val % 5]
    ∧ win0_3.index t = ![t.val / 5, t.val % 5] ∧ (t.val / 5 + 1) * 1024 ≤ 16384 ∧ (t.val % 5 + 1) * 1152 ≤ 5760 :=
  (by decide +kernel : ∀ t : Fin grid0.N, _)

/-- The region finds the rows, -/
theorem hyb_x (c : Dev nD) :
    V m c main_v0 = shapeCast _ (m ((c : Thread nD τ).loc main_arg0)) shapeCasts_S4x4096x1024_S16384x1024 := by
  dsimp only [V, hostOps0, hostOps0_1, hostOps0_2, List.flatten_cons, List.flatten_nil, List.cons_append, List.nil_append]; after_results <;> rfl

/-- the gain as one row, -/
theorem hyb_g (c : Dev nD) : V m c main_v11 = shapeCast _ (m ((c : Thread nD τ).loc main_arg1)) shapeCasts_S1024_S1x1024 := by
  dsimp only [V, hostOps0, hostOps0_1, hostOps0_2, List.flatten_cons, List.flatten_nil, List.cons_append, List.nil_append]; after_results <;> rfl

/-- and the reordered weight. -/
theorem hyb_w (c : Dev nD) : V m c main_v10 = wcat (m ((c : Thread nD τ).loc main_arg2) : Vec Ideal S1024x5648 .f32) := by
  dsimp only [V, hostOps0, hostOps0_1, hostOps0_2, List.flatten_cons, List.flatten_nil, List.cons_append, List.nil_append]; after_results <;> rfl

/-- The normed rows, from the launched arguments. -/
abbrev hybRow (c : Dev nD) (R : Fin 16384) : Fin 1024 → EReal :=
  hrow (m ((c : Thread nD τ).loc main_arg0)) (m ((c : Thread nD τ).loc main_arg1)) (seqOf R) (posOf R)

theorem hyb_first (c : Dev nD) (t : Fin cfg0.N) (h0 : t.val % 5 = 0) (r k : Fin 1024) (h : (t.val / 5 + 1) * 1024 ≤ 16384) :
    (outsAt0 m c t.val t.isLt).2 (ix2 r k) = hybRow m c (place 1024 (t.val / 5) r h) k := by
  obtain ⟨i0, i1, -⟩ := hyb_idx t
  rw [outsAt0_A m c t h0]
  frame_out
  rw [hyb_norm]
  unfold hybRow hrow
  congr 1 <;> funext j
  · refine (congrFun (hyb_x m c) _).trans ((congrArg _ ?_).trans (flat_apply _ _ (place 1024 (t.val / 5) r h) j)); blk_ext [i0, place]
  · refine (congrFun (hyb_g m c) _).trans ((congrArg _ ?_).trans (one_row _ _ j)); blk_ext [i1]

theorem hyb_final (c : Dev nD) : (dats m 0 c).arrAt 3 cfg0.N = Cert.Reference4Ideal.Read.val_main_v23
    (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ (r : Fin 1024) (d : Fin 1152), y = ix2 r d := ⟨y 0, y 1, eq_ix2 y⟩
  obtain ⟨-, -, i2, i3, hr, hc⟩ := hyb_idx t
  blk_simp
  rw [after0_3, show (win0_3.blk t).view.emb (ix2 r d) = ix2 (place 1024 (t.val / 5) r hr) (place 1152 (t.val % 5) d hc) from
    by blk_ext [i3, place], hyb_ref, ← laid_sum]
  refine (tiles (outsAt0 m c) (hybRow m c) (fun t => iblk m c 2 t) (hyb_first m c) (fun t h0 => ?_) (fun t r d => ?_) t r d hr).trans
    (Finset.sum_congr rfl fun k _ => congrArg (hybRow m c (place 1024 (t.val / 5) r hr) k * · : EReal → EReal) ?_)
  · rw [outsAt0_B m c t h0]; rfl
  · by_cases h0 : t.val % 5 = 0
    · rw [outsAt0_A m c t h0]; frame_out; rw [hyb_mul]
    · rw [outsAt0_B m c t h0]; frame_out; rw [hyb_mul]
      exact Finset.sum_congr rfl fun k _ => congrArg (· * _) (congrFun ((Memref.isWhole_whole cc0_scratch0).read_unread _) _)
  · refine (congrFun (hyb_w m c) _).trans ((congrArg _ ?_).trans (wcat_apply _ k (place 1152 (t.val % 5) d hc))); blk_ext [i2, place]

theorem algebraicHyb : Cert.algebraic_Kernel4Ideal_Reference4Ideal := by
  intro m ρ m' ρ' _ hagree
  refine ⟨_, run_blocks m ρ, ?_⟩
  refine (θ_run Cert.Reference4Ideal.defs _ _).mono (fun _ h c => ⟨?_, (h c).2⟩) (Cert.Reference4Ideal.Value.run (F := Ideal) m' ρ')
  obtain ⟨e0, e1, e2⟩ := hagree c
  rw [(h c).1, hyb_final, ← e0, ← e1, ← e2]
  exact Cert.Reference4Ideal.Read.val_main_v23_eq _ _

end

/-! ## The attention's, on the batch -/

theorem attn_ref (x : Vec Ideal Cert.Reference5Ideal.S4x4096x1024 .f32) (g : Vec Ideal Cert.Reference5Ideal.S1024 .f32)
    (w : Vec Ideal Cert.Reference5Ideal.S1024x3072 .f32) (R : Fin 16384) (C : Fin 3072) :
    Cert.Reference5Ideal.Read.val_main_v14 x g w (ix2 R C) = ∑ k : Fin 1024, hrow x g (seqOf R) (posOf R) k * w (ix2 k C) := by
  refine (flat_apply (D := 3072) _ _ R C).trans ?_
  pointwise [Cert.Reference5Ideal.Read.val_main_v13, Cert.Reference5Ideal.dot_S4x4096x1024_S1024x3072_S4x4096x3072_2_0_01_1_n_n]
  exact Finset.sum_congr rfl fun k _ => congrArg (· * _) (ExpertsRef.h_apply x g (seqOf R) (posOf R) k)

section
open Cert.Kernel5Ideal Cert.Kernel5Ideal.Gen Cert.Kernel5Ideal.Value

theorem attn_norm (x : Vec Ideal S1024x1024 .f32) (g : Vec Ideal S1x1024 .f32) (r k : Fin 1024) :
    k0_pay1 x g (ix2 r k) = normed 1149239296#32 (fun k => x (ix2 r k)) (fun k : Fin 1024 => g (ix2 (0 : Fin 1) k)) k := by
  pointwise [k0_pay1]
  rfl

theorem attn_mul (a w : Vec Ideal S1024x1024 .bf16) (r d : Fin 1024) :
    k0_pay2 a w (ix2 r d) = (∑ k : Fin 1024, a (ix2 r k) * w (ix2 k d) : EReal) := by
  pointwise [k0_pay2, dot_S1024x1024_S1024x1024_S1024x1024_1_0_0_1_n_n]

variable (m : (ℓ : Loc nD τ sig) → Buf (Elt Ideal) ℓ)

theorem attn_idx : ∀ t : Fin cfg0.N, win0_0.index t = ![t.val / 3, 0] ∧ win0_1.index t = ![0, 0] ∧ win0_2.index t = ![0, t.val % 3]
    ∧ win0_3.index t = ![t.val / 3, t.val % 3] ∧ (t.val / 3 + 1) * 1024 ≤ 16384 ∧ (t.val % 3 + 1) * 1024 ≤ 3072 :=
  (by decide +kernel : ∀ t : Fin grid0.N, _)

theorem attn_found (c : Dev nD) :
    V m c main_v0 = shapeCast _ (m ((c : Thread nD τ).loc main_arg0)) shapeCasts_S4x4096x1024_S16384x1024
    ∧ V m c main_v2 = shapeCast _ (m ((c : Thread nD τ).loc main_arg1)) shapeCasts_S1024_S1x1024
    ∧ V m c main_v1 = (m ((c : Thread nD τ).loc main_arg2) : Vec Ideal S1024x3072 .f32) := by
  refine ⟨?_, ?_, ?_⟩ <;> (dsimp only [V, hostOps0]; after_results <;> rfl)

/-- The normed rows, from the launched arguments. -/
abbrev attnRow (c : Dev nD) (R : Fin 16384) : Fin 1024 → EReal :=
  hrow (m ((c : Thread nD τ).loc main_arg0)) (m ((c : Thread nD τ).loc main_arg1)) (seqOf R) (posOf R)

theorem attn_first (c : Dev nD) (t : Fin cfg0.N) (h0 : t.val % 3 = 0) (r k : Fin 1024) (h : (t.val / 3 + 1) * 1024 ≤ 16384) :
    (outsAt0 m c t.val t.isLt).2 (ix2 r k) = attnRow m c (place 1024 (t.val / 3) r h) k := by
  obtain ⟨fx, fg, -⟩ := attn_found m c
  obtain ⟨i0, i1, -⟩ := attn_idx t
  rw [outsAt0_A m c t h0]
  frame_out
  rw [attn_norm]
  unfold attnRow hrow
  congr 1 <;> funext j
  · refine (congrFun fx _).trans ((congrArg _ ?_).trans (flat_apply _ _ (place 1024 (t.val / 3) r h) j)); blk_ext [i0, place]
  · refine (congrFun fg _).trans ((congrArg _ ?_).trans (one_row _ _ j)); blk_ext [i1]

theorem attn_final (c : Dev nD) : (dats m 0 c).arrAt 3 cfg0.N = Cert.Reference5Ideal.Read.val_main_v14
    (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ r d : Fin 1024, y = ix2 r d := ⟨y 0, y 1, eq_ix2 y⟩
  obtain ⟨-, -, i2, i3, hr, hc⟩ := attn_idx t
  blk_simp
  rw [after0_3, show (win0_3.blk t).view.emb (ix2 r d) = ix2 (place 1024 (t.val / 3) r hr) (place 1024 (t.val % 3) d hc) from
    by blk_ext [i3, place], attn_ref]
  refine (tiles (outsAt0 m c) (attnRow m c) (fun t => iblk m c 2 t) (attn_first m c) (fun t h0 => ?_) (fun t r d => ?_) t r d hr).trans
    (Finset.sum_congr rfl fun k _ => congrArg (attnRow m c (place 1024 (t.val / 3) r hr) k * · : EReal → EReal) ?_)
  · rw [outsAt0_B m c t h0]; rfl
  · by_cases h0 : t.val % 3 = 0
    · rw [outsAt0_A m c t h0]; frame_out; rw [attn_mul]
    · rw [outsAt0_B m c t h0]; frame_out; rw [attn_mul]
      exact Finset.sum_congr rfl fun k _ => congrArg (· * _) (congrFun ((Memref.isWhole_whole cc0_scratch0).read_unread _) _)
  · refine (congrFun (attn_found m c).2.2 _).trans (congrArg _ ?_); blk_ext [i2, place]

theorem algebraicAttn : Cert.algebraic_Kernel5Ideal_Reference5Ideal := by
  intro m ρ m' ρ' _ hagree
  refine ⟨_, run_blocks m ρ, ?_⟩
  refine (θ_run Cert.Reference5Ideal.defs _ _).mono (fun _ h c => ⟨?_, (h c).2⟩) (Cert.Reference5Ideal.Value.run (F := Ideal) m' ρ')
  obtain ⟨e0, e1, e2⟩ := hagree c
  rw [(h c).1, attn_final, ← e0, ← e1, ← e2]
  exact Cert.Reference5Ideal.Read.val_main_v14_eq _ _ _

end

/-! ## The hybrid mixer's, on the sample: the one block of rows is the whole array -/

section
open Cert.Reference12Ideal Cert.Reference12Ideal.Read
open SampleTokens (seqOf posOf)

theorem hybSample_prod (x : Vec Ideal S32x8x1024 .f32) (g : Vec Ideal S1024 .f32) (w : Vec Ideal S1024x5648 .f32)
    (b : Fin 32) (s : Fin 8) (C : Fin 5648) :
    val_main_v13 x g w (ix3 b s C) = ∑ k : Fin 1024, hrow x g b s k * w (ix2 k C) := by
  pointwise [val_main_v13, dot_S32x8x1024_S1024x5648_S32x8x5648_2_0_01_1_n_n]
  exact Finset.sum_congr rfl fun k _ => congrArg (· * _) (SampleTokens.h_apply x g b s k)

theorem hybSample_ref (x : Vec Ideal S32x8x1024 .f32) (g : Vec Ideal S1024 .f32) (w : Vec Ideal S1024x5648 .f32)
    (R : Fin 256) (C : Fin 5760) :
    val_main_v23 x g w (ix2 R C) = laid 0 (fun C' => ∑ k : Fin 1024, hrow x g (seqOf R) (posOf R) k * w (ix2 k C')) C := by
  refine (SampleTokens.flat_apply (D := 5760) _ _ R C).trans (Eq.trans ?_
    (congrArg (fun u => laid 0 u C) (funext fun C' => hybSample_prod x g w _ _ C')))
  unfold val_main_v22 val_main_v14 val_main_v15 val_main_v16 val_main_v17 val_main_v18 val_main_v19 val_main_v20 val_main_v21
    val_main_cst_2
  generalize val_main_v13 x g w = u
  pointwise []
  rfl

end

section
open Cert.Kernel12Ideal Cert.Kernel12Ideal.Gen Cert.Kernel12Ideal.Value
open SampleTokens (seqOf posOf)

theorem hybSample_norm (x : Vec Ideal S256x1024 .f32) (g : Vec Ideal S1x1024 .f32) (r : Fin 256) (k : Fin 1024) :
    k0_pay1 x g (ix2 r k) = normed 1149239296#32 (fun k => x (ix2 r k)) (fun k : Fin 1024 => g (ix2 (0 : Fin 1) k)) k := by
  pointwise [k0_pay1]
  rfl

theorem hybSample_mul (a : Vec Ideal S256x1024 .f32) (w : Vec Ideal S1024x1152 .f32) (r : Fin 256) (d : Fin 1152) :
    k0_pay2 a w (ix2 r d) = (∑ k : Fin 1024, a (ix2 r k) * w (ix2 k d) : EReal) := by
  pointwise [k0_pay2, dot_S256x1024_S1024x1152_S256x1152_1_0_0_1_n_n]

variable (m : (ℓ : Loc nD τ sig) → Buf (Elt Ideal) ℓ)

theorem hybSample_idx : ∀ t : Fin cfg0.N, win0_0.index t = ![t.val / 5, 0] ∧ win0_1.index t = ![0, 0]
    ∧ win0_2.index t = ![0, t.val % 5] ∧ win0_3.index t = ![t.val / 5, t.val % 5] ∧ (t.val / 5 + 1) * 256 ≤ 256
    ∧ (t.val % 5 + 1) * 1152 ≤ 5760 :=
  (by decide +kernel : ∀ t : Fin grid0.N, _)

theorem hybSample_x (c : Dev nD) :
    V m c main_v0 = shapeCast _ (m ((c : Thread nD τ).loc main_arg0)) shapeCasts_S32x8x1024_S256x1024 := by
  dsimp only [V, hostOps0, hostOps0_1, hostOps0_2, List.flatten_cons, List.flatten_nil, List.cons_append, List.nil_append]; after_results <;> rfl

theorem hybSample_g (c : Dev nD) : V m c main_v10 = shapeCast _ (m ((c : Thread nD τ).loc main_arg1)) shapeCasts_S1024_S1x1024 := by
  dsimp only [V, hostOps0, hostOps0_1, hostOps0_2, List.flatten_cons, List.flatten_nil, List.cons_append, List.nil_append]; after_results <;> rfl

theorem hybSample_w (c : Dev nD) : V m c main_v9 = wcat (m ((c : Thread nD τ).loc main_arg2) : Vec Ideal S1024x5648 .f32) := by
  dsimp only [V, hostOps0, hostOps0_1, hostOps0_2, List.flatten_cons, List.flatten_nil, List.cons_append, List.nil_append]; after_results <;> rfl

/-- The normed rows, from the launched arguments. -/
abbrev hybSampleRow (c : Dev nD) (R : Fin 256) : Fin 1024 → EReal :=
  hrow (m ((c : Thread nD τ).loc main_arg0)) (m ((c : Thread nD τ).loc main_arg1)) (seqOf R) (posOf R)

theorem hybSample_first (c : Dev nD) (t : Fin cfg0.N) (h0 : t.val % 5 = 0) (r : Fin 256) (k : Fin 1024) (h : (t.val / 5 + 1) * 256 ≤ 256) :
    (outsAt0 m c t.val t.isLt).2 (ix2 r k) = hybSampleRow m c (place 256 (t.val / 5) r h) k := by
  obtain ⟨i0, i1, -⟩ := hybSample_idx t
  rw [outsAt0_A m c t h0]
  frame_out
  rw [hybSample_norm]
  unfold hybSampleRow hrow
  congr 1 <;> funext j
  · refine (congrFun (hybSample_x m c) _).trans ((congrArg _ ?_).trans (SampleTokens.flat_apply _ _ (place 256 (t.val / 5) r h) j))
    blk_ext [i0, place]
  · refine (congrFun (hybSample_g m c) _).trans ((congrArg _ ?_).trans (one_row _ _ j)); blk_ext [i1]

theorem hybSample_final (c : Dev nD) : (dats m 0 c).arrAt 3 cfg0.N = Cert.Reference12Ideal.Read.val_main_v23
    (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ (r : Fin 256) (d : Fin 1152), y = ix2 r d := ⟨y 0, y 1, eq_ix2 y⟩
  obtain ⟨-, -, i2, i3, hr, hc⟩ := hybSample_idx t
  blk_simp
  rw [after0_3, show (win0_3.blk t).view.emb (ix2 r d) = ix2 (place 256 (t.val / 5) r hr) (place 1152 (t.val % 5) d hc) from
    by blk_ext [i3, place], hybSample_ref, ← laid_sum]
  refine (tiles (outsAt0 m c) (hybSampleRow m c) (fun t => iblk m c 2 t) (hybSample_first m c) (fun t h0 => ?_) (fun t r d => ?_)
    t r d hr).trans (Finset.sum_congr rfl fun k _ => congrArg (hybSampleRow m c (place 256 (t.val / 5) r hr) k * · : EReal → EReal) ?_)
  · rw [outsAt0_B m c t h0]; rfl
  · by_cases h0 : t.val % 5 = 0
    · rw [outsAt0_A m c t h0]; frame_out; rw [hybSample_mul]
    · rw [outsAt0_B m c t h0]; frame_out; rw [hybSample_mul]
      exact Finset.sum_congr rfl fun k _ => congrArg (· * _) (congrFun ((Memref.isWhole_whole cc0_scratch0).read_unread _) _)
  · refine (congrFun (hybSample_w m c) _).trans ((congrArg _ ?_).trans (wcat_apply _ k (place 1152 (t.val % 5) d hc))); blk_ext [i2, place]

theorem algebraicHybSample : Cert.algebraic_Kernel12Ideal_Reference12Ideal := by
  intro m ρ m' ρ' _ hagree
  refine ⟨_, run_blocks m ρ, ?_⟩
  refine (θ_run Cert.Reference12Ideal.defs _ _).mono (fun _ h c => ⟨?_, (h c).2⟩) (Cert.Reference12Ideal.Value.run (F := Ideal) m' ρ')
  obtain ⟨e0, e1, e2⟩ := hagree c
  rw [(h c).1, hybSample_final, ← e0, ← e1, ← e2]
  exact Cert.Reference12Ideal.Read.val_main_v23_eq _ _

end

/-! ## The attention's, on the sample -/

section
open Cert.Kernel13Ideal Cert.Kernel13Ideal.Gen Cert.Kernel13Ideal.Value
open SampleTokens (seqOf posOf)

theorem attnSample_ref (x : Vec Ideal S32x8x1024 .f32) (g : Vec Ideal S1024 .f32) (w : Vec Ideal S1024x3072 .f32)
    (R : Fin 256) (C : Fin 3072) :
    Cert.Reference13Ideal.Read.val_main_v14 x g w (ix2 R C) = ∑ k : Fin 1024, hrow x g (seqOf R) (posOf R) k * w (ix2 k C) := by
  refine (SampleTokens.flat_apply (D := 3072) _ _ R C).trans ?_
  pointwise [Cert.Reference13Ideal.Read.val_main_v13, Cert.Reference13Ideal.dot_S32x8x1024_S1024x3072_S32x8x3072_2_0_01_1_n_n]
  exact Finset.sum_congr rfl fun k _ => congrArg (· * _) (SampleTokens.h_apply x g (seqOf R) (posOf R) k)

theorem attnSample_norm (x : Vec Ideal S256x1024 .f32) (g : Vec Ideal S1x1024 .f32) (r : Fin 256) (k : Fin 1024) :
    k0_pay1 x g (ix2 r k) = normed 1149239296#32 (fun k => x (ix2 r k)) (fun k : Fin 1024 => g (ix2 (0 : Fin 1) k)) k := by
  pointwise [k0_pay1]
  rfl

theorem attnSample_mul (a : Vec Ideal S256x1024 .f32) (w : Vec Ideal S1024x1024 .f32) (r : Fin 256) (d : Fin 1024) :
    k0_pay2 a w (ix2 r d) = (∑ k : Fin 1024, a (ix2 r k) * w (ix2 k d) : EReal) := by
  pointwise [k0_pay2, dot_S256x1024_S1024x1024_S256x1024_1_0_0_1_n_n]

variable (m : (ℓ : Loc nD τ sig) → Buf (Elt Ideal) ℓ)

theorem attnSample_idx : ∀ t : Fin cfg0.N, win0_0.index t = ![t.val / 3, 0] ∧ win0_1.index t = ![0, 0]
    ∧ win0_2.index t = ![0, t.val % 3] ∧ win0_3.index t = ![t.val / 3, t.val % 3] ∧ (t.val / 3 + 1) * 256 ≤ 256
    ∧ (t.val % 3 + 1) * 1024 ≤ 3072 :=
  (by decide +kernel : ∀ t : Fin grid0.N, _)

theorem attnSample_found (c : Dev nD) :
    V m c main_v0 = shapeCast _ (m ((c : Thread nD τ).loc main_arg0)) shapeCasts_S32x8x1024_S256x1024
    ∧ V m c main_v1 = shapeCast _ (m ((c : Thread nD τ).loc main_arg1)) shapeCasts_S1024_S1x1024 := by
  refine ⟨?_, ?_⟩ <;> (dsimp only [V, hostOps0]; after_results <;> rfl)

/-- The normed rows, from the launched arguments. -/
abbrev attnSampleRow (c : Dev nD) (R : Fin 256) : Fin 1024 → EReal :=
  hrow (m ((c : Thread nD τ).loc main_arg0)) (m ((c : Thread nD τ).loc main_arg1)) (seqOf R) (posOf R)

theorem attnSample_first (c : Dev nD) (t : Fin cfg0.N) (h0 : t.val % 3 = 0) (r : Fin 256) (k : Fin 1024) (h : (t.val / 3 + 1) * 256 ≤ 256) :
    (outsAt0 m c t.val t.isLt).2 (ix2 r k) = attnSampleRow m c (place 256 (t.val / 3) r h) k := by
  obtain ⟨fx, fg⟩ := attnSample_found m c
  obtain ⟨i0, i1, -⟩ := attnSample_idx t
  rw [outsAt0_A m c t h0]
  frame_out
  rw [attnSample_norm]
  unfold attnSampleRow hrow
  congr 1 <;> funext j
  · refine (congrFun fx _).trans ((congrArg _ ?_).trans (SampleTokens.flat_apply _ _ (place 256 (t.val / 3) r h) j)); blk_ext [i0, place]
  · refine (congrFun fg _).trans ((congrArg _ ?_).trans (one_row _ _ j)); blk_ext [i1]

theorem attnSample_final (c : Dev nD) : (dats m 0 c).arrAt 3 cfg0.N = Cert.Reference13Ideal.Read.val_main_v14
    (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ (r : Fin 256) (d : Fin 1024), y = ix2 r d := ⟨y 0, y 1, eq_ix2 y⟩
  obtain ⟨-, -, i2, i3, hr, hc⟩ := attnSample_idx t
  blk_simp
  rw [after0_3, show (win0_3.blk t).view.emb (ix2 r d) = ix2 (place 256 (t.val / 3) r hr) (place 1024 (t.val % 3) d hc) from
    by blk_ext [i3, place], attnSample_ref]
  refine (tiles (outsAt0 m c) (attnSampleRow m c) (fun t => iblk m c 2 t) (attnSample_first m c) (fun t h0 => ?_) (fun t r d => ?_)
    t r d hr).trans (Finset.sum_congr rfl fun k _ => congrArg (attnSampleRow m c (place 256 (t.val / 3) r hr) k * · : EReal → EReal) ?_)
  · rw [outsAt0_B m c t h0]; rfl
  · by_cases h0 : t.val % 3 = 0
    · rw [outsAt0_A m c t h0]; frame_out; rw [attnSample_mul]
    · rw [outsAt0_B m c t h0]; frame_out; rw [attnSample_mul]
      exact Finset.sum_congr rfl fun k _ => congrArg (· * _) (congrFun ((Memref.isWhole_whole cc0_scratch0).read_unread _) _)
  · refine (congrFun (V_main_arg2 m c) _).trans (congrArg _ ?_); blk_ext [i2, place]

theorem algebraicAttnSample : Cert.algebraic_Kernel13Ideal_Reference13Ideal := by
  intro m ρ m' ρ' _ hagree
  refine ⟨_, run_blocks m ρ, ?_⟩
  refine (θ_run Cert.Reference13Ideal.defs _ _).mono (fun _ h c => ⟨?_, (h c).2⟩) (Cert.Reference13Ideal.Value.run (F := Ideal) m' ρ')
  obtain ⟨e0, e1, e2⟩ := hagree c
  rw [(h c).1, attnSample_final, ← e0, ← e1, ← e2]
  exact Cert.Reference13Ideal.Read.val_main_v14_eq _ _ _

end

end Cert.Proof.InProj

end
-- ==== Proof.Out.lean ====
/- The output projections (programs 6, 7, 14 and 15): a grid point takes a block of rows, multiplies them by the whole weight and
   adds the residual's rows. On the batch a block has 512 rows, on the sample one block has all 256. Of each program this module
   reads the block a point writes and the reference at a row, both as `projected`. -/
module

public import proofs.«01_k».proof.Defs
public import proofs.«01_k».proof.Proof.SampleTokens
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import proofs.«01_k».proof.Proof.Gen.Kernel14Ideal.Value
public import proofs.«01_k».proof.Proof.Gen.Reference14Ideal.Read
public import proofs.«01_k».proof.Proof.Gen.Kernel15Ideal.Value
public import proofs.«01_k».proof.Proof.Gen.Reference15Ideal.Read
public import Idealize.ShloMosaic.Lib.Pipeline.ValueKit.Acc
public import Idealize.ShloMosaic.Lib.Pipeline.ValueKit.Geometry

@[expose] public section

noncomputable section

namespace Cert.Proof.Out

open Cert.Proof.Tokens (place projected flat_apply seqOf posOf)
open Idealize.ShloMosaic Idealize.ShloMosaic.TcCoe Idealize.SL.Sem Idealize.ShloMosaic.StableHlo

/-! ## The hybrid mixer's, on the batch -/

section
open Cert.Kernel6Ideal Cert.Kernel6Ideal.Gen Cert.Kernel6Ideal.Value

theorem hyb_block (a : Vec Ideal S512x2048 .bf16) (w : Vec Ideal S2048x1024 .bf16) (x : Vec Ideal S512x1024 .f32)
    (r : Fin 512) (d : Fin 1024) : out0_3 a w x (ix2 r d) = projected (fun d => x (ix2 r d)) (fun k => a (ix2 r k)) w d := by
  frame_out
  pointwise [k0_pay1, dot_S512x2048_S2048x1024_S512x1024_1_0_0_1_n_n]
  rfl

theorem hyb_ref (o : Vec Ideal S16384x2048 .bf16) (w : Vec Ideal S2048x1024 .f32) (x : Vec Ideal S4x4096x1024 .f32)
    (r : Fin 16384) (d : Fin 1024) : Cert.Reference6Ideal.Read.val_main_v3 o w x (ix2 r d)
      = projected (fun d => x (ix3 (seqOf r) (posOf r) d)) (fun k => o (ix2 r k)) w d := by
  pointwise [Cert.Reference6Ideal.Read.val_main_v3, Cert.Reference6Ideal.Read.val_main_v2, Cert.Reference6Ideal.Read.val_main_v1,
    Cert.Reference6Ideal.Read.val_main_v0, Cert.Reference6Ideal.dot_S16384x2048_S2048x1024_S16384x1024_1_0_0_1_n_n]
  rfl

variable (m : (ℓ : Loc nD τ sig) → Buf (Elt Ideal) ℓ)

theorem hyb_idx : ∀ t : Fin cfg0.N, win0_0.index t = ![t.val, 0] ∧ win0_1.index t = ![0, 0] ∧ win0_2.index t = ![t.val, 0]
    ∧ win0_3.index t = ![t.val, 0] ∧ (t.val + 1) * 512 ≤ 16384 := (by decide +kernel : ∀ t : Fin grid0.N, _)

/-- The region finds the residual as rows, the weight and the mixer's output as they were given. -/
theorem hyb_found (c : Dev nD) :
    V m c main_v0 = shapeCast _ (m ((c : Thread nD τ).loc main_arg2)) shapeCasts_S4x4096x1024_S16384x1024
    ∧ V m c main_v1 = (m ((c : Thread nD τ).loc main_arg1) : Vec Ideal S2048x1024 .f32)
    ∧ V m c main_arg0 = m ((c : Thread nD τ).loc main_arg0) := by
  refine ⟨?_, ?_, V_main_arg0 m c⟩ <;> (dsimp only [V, hostOps0]; after_results <;> rfl)

theorem hyb_final (c : Dev nD) : (dats m 0 c).arrAt 3 cfg0.N = Cert.Reference6Ideal.Read.val_main_v3
    (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ (r : Fin 512) (d : Fin 1024), y = ix2 r d := ⟨y 0, y 1, eq_ix2 y⟩
  obtain ⟨i0, i1, i2, i3, ht⟩ := hyb_idx t
  obtain ⟨fx, fw, fa⟩ := hyb_found m c
  blk_simp
  rw [after0_3, hyb_block, show (win0_3.blk t).view.emb (ix2 r d) = ix2 (place 512 t.val r ht) d from by blk_ext [i3, place], hyb_ref]
  congr 1
  · funext d
    refine (congrFun fx _).trans ((congrArg _ ?_).trans (flat_apply _ _ (place 512 t.val r ht) d)); blk_ext [i2, place]
  · funext k
    refine (congrFun fa _).trans (congrArg _ ?_); blk_ext [i0, place]
  · funext j
    refine (congrFun fw _).trans (congrArg _ ?_); blk_ext [i1]

theorem algebraicHyb : Cert.algebraic_Kernel6Ideal_Reference6Ideal := by
  intro m ρ m' ρ' _ hagree
  refine ⟨_, run_blocks m ρ, ?_⟩
  refine (θ_run Cert.Reference6Ideal.defs _ _).mono (fun _ h c => ⟨?_, (h c).2⟩) (Cert.Reference6Ideal.Value.run (F := Ideal) m' ρ')
  obtain ⟨e0, e1, e2⟩ := hagree c
  rw [(h c).1, hyb_final, e0, e1, e2]
  exact Cert.Reference6Ideal.Read.val_main_v3_eq _ _ _

end

/-! ## The attention's, on the batch: its output too is taken as rows -/

section
open Cert.Kernel7Ideal Cert.Kernel7Ideal.Gen Cert.Kernel7Ideal.Value

theorem attn_block (a : Vec Ideal S512x1024 .bf16) (w : Vec Ideal S1024x1024 .bf16) (x : Vec Ideal S512x1024 .f32)
    (r : Fin 512) (d : Fin 1024) : out0_3 a w x (ix2 r d) = projected (fun d => x (ix2 r d)) (fun k => a (ix2 r k)) w d := by
  frame_out
  pointwise [k0_pay1, dot_S512x1024_S1024x1024_S512x1024_1_0_0_1_n_n]
  rfl

theorem attn_ref (o : Vec Ideal S4x4096x1024 .bf16) (w : Vec Ideal S1024x1024 .f32) (x : Vec Ideal S4x4096x1024 .f32)
    (r : Fin 16384) (d : Fin 1024) : Cert.Reference7Ideal.Read.val_main_v3 o w x (ix2 r d)
      = projected (fun d => x (ix3 (seqOf r) (posOf r) d)) (fun k => o (ix3 (seqOf r) (posOf r) k)) w d := by
  pointwise [Cert.Reference7Ideal.Read.val_main_v3, Cert.Reference7Ideal.Read.val_main_v2, Cert.Reference7Ideal.Read.val_main_v1,
    Cert.Reference7Ideal.Read.val_main_v0, Cert.Reference7Ideal.dot_S4x4096x1024_S1024x1024_S4x4096x1024_2_0_01_1_n_n]
  rfl

variable (m : (ℓ : Loc nD τ sig) → Buf (Elt Ideal) ℓ)

theorem attn_idx : ∀ t : Fin cfg0.N, win0_0.index t = ![t.val, 0] ∧ win0_1.index t = ![0, 0] ∧ win0_2.index t = ![t.val, 0]
    ∧ win0_3.index t = ![t.val, 0] ∧ (t.val + 1) * 512 ≤ 16384 := (by decide +kernel : ∀ t : Fin grid0.N, _)

theorem attn_found (c : Dev nD) :
    V m c main_v0 = shapeCast _ (m ((c : Thread nD τ).loc main_arg2)) shapeCasts_S4x4096x1024_S16384x1024
    ∧ V m c main_v1 = shapeCast _ (m ((c : Thread nD τ).loc main_arg0)) shapeCasts_S4x4096x1024_S16384x1024
    ∧ V m c main_v2 = (m ((c : Thread nD τ).loc main_arg1) : Vec Ideal S1024x1024 .f32) := by
  refine ⟨?_, ?_, ?_⟩ <;> (dsimp only [V, hostOps0]; after_results <;> rfl)

theorem attn_final (c : Dev nD) : (dats m 0 c).arrAt 3 cfg0.N = Cert.Reference7Ideal.Read.val_main_v3
    (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ (r : Fin 512) (d : Fin 1024), y = ix2 r d := ⟨y 0, y 1, eq_ix2 y⟩
  obtain ⟨i0, i1, i2, i3, ht⟩ := attn_idx t
  obtain ⟨fx, fa, fw⟩ := attn_found m c
  blk_simp
  rw [after0_3, attn_block, show (win0_3.blk t).view.emb (ix2 r d) = ix2 (place 512 t.val r ht) d from by blk_ext [i3, place], attn_ref]
  congr 1
  · funext d
    refine (congrFun fx _).trans ((congrArg _ ?_).trans (flat_apply _ _ (place 512 t.val r ht) d)); blk_ext [i2, place]
  · funext k
    refine (congrFun fa _).trans ((congrArg _ ?_).trans (flat_apply _ _ (place 512 t.val r ht) k)); blk_ext [i0, place]
  · funext j
    refine (congrFun fw _).trans (congrArg _ ?_); blk_ext [i1]

theorem algebraicAttn : Cert.algebraic_Kernel7Ideal_Reference7Ideal := by
  intro m ρ m' ρ' _ hagree
  refine ⟨_, run_blocks m ρ, ?_⟩
  refine (θ_run Cert.Reference7Ideal.defs _ _).mono (fun _ h c => ⟨?_, (h c).2⟩) (Cert.Reference7Ideal.Value.run (F := Ideal) m' ρ')
  obtain ⟨e0, e1, e2⟩ := hagree c
  rw [(h c).1, attn_final, e0, e1, e2]
  exact Cert.Reference7Ideal.Read.val_main_v3_eq _ _ _

end

/-! ## The hybrid mixer's, on the sample: every block is a whole array -/

section
open Cert.Kernel14Ideal Cert.Kernel14Ideal.Gen Cert.Kernel14Ideal.Value
open SampleTokens (seqOf posOf)

theorem hybSample_block (a : Vec Ideal S256x2048 .f32) (w : Vec Ideal S2048x1024 .f32) (x : Vec Ideal S256x1024 .f32)
    (r : Fin 256) (d : Fin 1024) : out0_3 a w x (ix2 r d) = projected (fun d => x (ix2 r d)) (fun k => a (ix2 r k)) w d := by
  frame_out
  pointwise [k0_pay1, dot_S256x2048_S2048x1024_S256x1024_1_0_0_1_n_n]
  rfl

theorem hybSample_ref (o : Vec Ideal S256x2048 .f32) (w : Vec Ideal S2048x1024 .f32) (x : Vec Ideal S32x8x1024 .f32)
    (r : Fin 256) (d : Fin 1024) : Cert.Reference14Ideal.Read.val_main_v2 o w x (ix2 r d)
      = projected (fun d => x (ix3 (seqOf r) (posOf r) d)) (fun k => o (ix2 r k)) w d := by
  pointwise [Cert.Reference14Ideal.Read.val_main_v2, Cert.Reference14Ideal.Read.val_main_v1, Cert.Reference14Ideal.Read.val_main_v0,
    Cert.Reference14Ideal.dot_S256x2048_S2048x1024_S256x1024_1_0_0_1_n_n]
  rfl

variable (m : (ℓ : Loc nD τ sig) → Buf (Elt Ideal) ℓ)

theorem hybSample_idx : ∀ t : Fin cfg0.N, win0_0.index t = ![0, 0] ∧ win0_1.index t = ![0, 0] ∧ win0_2.index t = ![0, 0]
    ∧ win0_3.index t = ![0, 0] := (by decide +kernel : ∀ t : Fin grid0.N, _)

theorem hybSample_found (c : Dev nD) :
    V m c main_v0 = shapeCast _ (m ((c : Thread nD τ).loc main_arg2)) shapeCasts_S32x8x1024_S256x1024 := by
  dsimp only [V, hostOps0]; after_results <;> rfl

theorem hybSample_final (c : Dev nD) : (dats m 0 c).arrAt 3 cfg0.N = Cert.Reference14Ideal.Read.val_main_v2
    (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ (r : Fin 256) (d : Fin 1024), y = ix2 r d := ⟨y 0, y 1, eq_ix2 y⟩
  obtain ⟨i0, i1, i2, i3⟩ := hybSample_idx t
  blk_simp
  rw [after0_3, hybSample_block, show (win0_3.blk t).view.emb (ix2 r d) = ix2 r d from by blk_ext [i3], hybSample_ref]
  congr 1
  · funext d
    refine (congrFun (hybSample_found m c) _).trans ((congrArg _ ?_).trans (SampleTokens.flat_apply _ _ r d)); blk_ext [i2]
  · funext k
    refine (congrFun (V_main_arg0 m c) _).trans (congrArg _ ?_); blk_ext [i0]
  · funext j
    refine (congrFun (V_main_arg1 m c) _).trans (congrArg _ ?_); blk_ext [i1]

theorem algebraicHybSample : Cert.algebraic_Kernel14Ideal_Reference14Ideal := by
  intro m ρ m' ρ' _ hagree
  refine ⟨_, run_blocks m ρ, ?_⟩
  refine (θ_run Cert.Reference14Ideal.defs _ _).mono (fun _ h c => ⟨?_, (h c).2⟩) (Cert.Reference14Ideal.Value.run (F := Ideal) m' ρ')
  obtain ⟨e0, e1, e2⟩ := hagree c
  rw [(h c).1, hybSample_final, e0, e1, e2]
  exact Cert.Reference14Ideal.Read.val_main_v2_eq _ _ _

end

/-! ## The attention's, on the sample -/

section
open Cert.Kernel15Ideal Cert.Kernel15Ideal.Gen Cert.Kernel15Ideal.Value
open SampleTokens (seqOf posOf)

theorem attnSample_block (a : Vec Ideal S256x1024 .f32) (w : Vec Ideal S1024x1024 .f32) (x : Vec Ideal S256x1024 .f32)
    (r : Fin 256) (d : Fin 1024) : out0_3 a w x (ix2 r d) = projected (fun d => x (ix2 r d)) (fun k => a (ix2 r k)) w d := by
  frame_out
  pointwise [k0_pay1, dot_S256x1024_S1024x1024_S256x1024_1_0_0_1_n_n]
  rfl

theorem attnSample_ref (o : Vec Ideal S32x8x1024 .f32) (w : Vec Ideal S1024x1024 .f32) (x : Vec Ideal S32x8x1024 .f32)
    (r : Fin 256) (d : Fin 1024) : Cert.Reference15Ideal.Read.val_main_v2 o w x (ix2 r d)
      = projected (fun d => x (ix3 (seqOf r) (posOf r) d)) (fun k => o (ix3 (seqOf r) (posOf r) k)) w d := by
  pointwise [Cert.Reference15Ideal.Read.val_main_v2, Cert.Reference15Ideal.Read.val_main_v1, Cert.Reference15Ideal.Read.val_main_v0,
    Cert.Reference15Ideal.dot_S32x8x1024_S1024x1024_S32x8x1024_2_0_01_1_n_n]
  rfl

variable (m : (ℓ : Loc nD τ sig) → Buf (Elt Ideal) ℓ)

theorem attnSample_idx : ∀ t : Fin cfg0.N, win0_0.index t = ![0, 0] ∧ win0_1.index t = ![0, 0] ∧ win0_2.index t = ![0, 0]
    ∧ win0_3.index t = ![0, 0] := (by decide +kernel : ∀ t : Fin grid0.N, _)

theorem attnSample_found (c : Dev nD) :
    V m c main_v1 = shapeCast _ (m ((c : Thread nD τ).loc main_arg2)) shapeCasts_S32x8x1024_S256x1024
    ∧ V m c main_v0 = shapeCast _ (m ((c : Thread nD τ).loc main_arg0)) shapeCasts_S32x8x1024_S256x1024 := by
  refine ⟨?_, ?_⟩ <;> (dsimp only [V, hostOps0]; after_results <;> rfl)

theorem attnSample_final (c : Dev nD) : (dats m 0 c).arrAt 3 cfg0.N = Cert.Reference15Ideal.Read.val_main_v2
    (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ (r : Fin 256) (d : Fin 1024), y = ix2 r d := ⟨y 0, y 1, eq_ix2 y⟩
  obtain ⟨i0, i1, i2, i3⟩ := attnSample_idx t
  obtain ⟨fx, fa⟩ := attnSample_found m c
  blk_simp
  rw [after0_3, attnSample_block, show (win0_3.blk t).view.emb (ix2 r d) = ix2 r d from by blk_ext [i3], attnSample_ref]
  congr 1
  · funext d
    refine (congrFun fx _).trans ((congrArg _ ?_).trans (SampleTokens.flat_apply _ _ r d)); blk_ext [i2]
  · funext k
    refine (congrFun fa _).trans ((congrArg _ ?_).trans (SampleTokens.flat_apply _ _ r k)); blk_ext [i0]
  · funext j
    refine (congrFun (V_main_arg1 m c) _).trans (congrArg _ ?_); blk_ext [i1]

theorem algebraicAttnSample : Cert.algebraic_Kernel15Ideal_Reference15Ideal := by
  intro m ρ m' ρ' _ hagree
  refine ⟨_, run_blocks m ρ, ?_⟩
  refine (θ_run Cert.Reference15Ideal.defs _ _).mono (fun _ h c => ⟨?_, (h c).2⟩) (Cert.Reference15Ideal.Value.run (F := Ideal) m' ρ')
  obtain ⟨e0, e1, e2⟩ := hagree c
  rw [(h c).1, attnSample_final, e0, e1, e2]
  exact Cert.Reference15Ideal.Read.val_main_v2_eq _ _ _

end

end Cert.Proof.Out

end
-- ==== Proof.Head.lean ====
/- One head of the queries, keys or values. A head is 64 columns. It is normed, times a gain, and turned: column `j` and column
   `32 + j` are the two coordinates of a point that the angle of the row's position turns. This module has the mathematics of
   a head, and reads at an index the arrays by which the programs build the heads, for any number of rows. -/
module

public import proofs.«01_k».proof.Proof.Tokens
public import Idealize.ShloMosaic.Lib.Pipeline.ValueKit.Tiles

@[expose] public section

noncomputable section

namespace Cert.Proof.Heads

open Idealize.ShloMosaic Idealize.ShloMosaic.StableHlo

/-! ## The mathematics -/

/-- Column `j` of a head's first half. -/
def lo (j : Fin 32) : Fin 64 := ⟨j.val, by omega⟩
/-- Column `j` of its second half. -/
def hi (j : Fin 32) : Fin 64 := ⟨32 + j.val, by omega⟩

/-- A column is one of the first half or one of the second. -/
theorem lo_or_hi (d : Fin 64) : (∃ j, d = lo j) ∨ ∃ j, d = hi j := by
  by_cases h : d.val < 32
  · exact .inl ⟨⟨d.val, h⟩, Fin.ext rfl⟩
  · exact .inr ⟨⟨d.val - 32, by omega⟩, Fin.ext (by show d.val = 32 + (d.val - 32); omega)⟩

/-- Column `d` of head `h` of the queries (`p = 0`), keys (`p = 1`) or values (`p = 2`). -/
def colOf (p : Fin 3) (h : Fin 16) (d : Fin 64) : Fin 3072 := ⟨p.val * 1024 + h.val * 64 + d.val, by omega⟩

/-- A head's columns, normed and times the gain. -/
def headNorm (x g : Fin 64 → EReal) (d : Fin 64) : EReal :=
  x d * Ideal.rsqrt (Ideal.div (∑ k, x k * x k) (FloatOps.ofBits (F := Ideal) .f32 0x42800000#32)
    + FloatOps.ofBits (F := Ideal) .f32 0x358637BD#32) * g d

/-- The columns `y`, turned by the angles whose cosines and sines are `c` and `s`. -/
def turned (y : Fin 64 → EReal) (c s : Fin 32 → EReal) (d : Fin 64) : EReal :=
  if h : d.val < 32 then y d * c ⟨d.val, h⟩ - y (hi ⟨d.val, h⟩) * s ⟨d.val, h⟩
  else y d * c ⟨d.val - 32, by omega⟩ + y (lo ⟨d.val - 32, by omega⟩) * s ⟨d.val - 32, by omega⟩

theorem turned_lo (y : Fin 64 → EReal) (c s : Fin 32 → EReal) (j : Fin 32) :
    turned y c s (lo j) = y (lo j) * c j - y (hi j) * s j := by
  unfold turned
  rw [dif_pos (show (lo j).val < 32 from j.isLt)]
  rfl

theorem turned_hi (y : Fin 64 → EReal) (c s : Fin 32 → EReal) (j : Fin 32) :
    turned y c s (hi j) = y (hi j) * c j + y (lo j) * s j := by
  unfold turned
  rw [dif_neg (show ¬(hi j).val < 32 by show ¬32 + j.val < 32; omega)]
  have e : (⟨(hi j).val - 32, by show 32 + j.val - 32 < 32; omega⟩ : Fin 32) = j := Fin.ext (by show 32 + j.val - 32 = j.val; omega)
  rw [e]

/-- The columns `y` times the table `c`, plus their two halves exchanged times the table `s`. -/
def rotated (y c s : Fin 64 → EReal) (d : Fin 64) : EReal :=
  y d * c d + (if h : d.val < 32 then y ⟨32 + d.val, by omega⟩ else y ⟨d.val - 32, by omega⟩) * s d

/-- That turns them, when the tables hold each cosine twice, and each sine once with its sign changed and once as it is. -/
theorem rotated_eq (y c s : Fin 64 → EReal) (C S : Fin 32 → EReal) (hcl : ∀ j, c (lo j) = C j) (hch : ∀ j, c (hi j) = C j)
    (hsl : ∀ j, s (lo j) = -S j) (hsh : ∀ j, s (hi j) = S j) (d : Fin 64) : rotated y c s d = turned y C S d := by
  unfold rotated
  rcases lo_or_hi d with ⟨j, rfl⟩ | ⟨j, rfl⟩
  · rw [turned_lo, dif_pos (show (lo j).val < 32 from j.isLt), hcl, hsl, mul_neg, ← sub_eq_add_neg]
    rfl
  · rw [turned_hi, dif_neg (show ¬(hi j).val < 32 by show ¬32 + j.val < 32; omega), hch, hsh]
    exact congrArg (fun k => y (hi j) * C j + y k * S j) (Fin.ext (by show 32 + j.val - 32 = j.val; omega))

/-! ## Arrays built of heads -/

/-- Of rows of 3072 columns, `S` rows to a sequence, the 1024 columns from `o` on, head by head. -/
theorem heads_of {B S N : ℕ} {α : Type} (x : (⟨2, ![N, 3072]⟩ : Shape).Idx → α)
    (h1 : Shape.ShapeCasts ⟨2, ![N, 3072]⟩ ⟨3, ![B, S, 3072]⟩) (o : ℕ)
    (hs : (⟨3, ![B, S, 3072]⟩ : Shape).Slices ![0, 0, o] ⟨3, ![B, S, 1024]⟩)
    (h2 : Shape.ShapeCasts ⟨3, ![B, S, 1024]⟩ ⟨4, ![B, S, 16, 64]⟩) (p : Fin 3) (b : Fin B) (s : Fin S) (h : Fin 16) (d : Fin 64)
    (r : Fin N) (er : b.val * S + s.val = r.val) (eo : o = p.val * 1024) :
    shapeCast ⟨4, ![B, S, 16, 64]⟩ (extractStridedSlice ⟨3, ![B, S, 1024]⟩ ![0, 0, o] (shapeCast ⟨3, ![B, S, 3072]⟩ x h1) hs) h2 (ix4 b s h d)
      = x (ix2 r (colOf p h d)) := by
  refine (shapeCast_apply _ h2 _ (ix3 b s (⟨h.val * 64 + d.val, by omega⟩ : Fin 1024)) ?_).trans
    ((extractStridedSlice_apply _ _ hs _ (ix3 b s (colOf p h d)) fun a => ?_).trans (shapeCast_apply x h1 _ _ ?_))
  · rewrite [Shape.rowMajor_val_three, Shape.rowMajor_val_four]
    show (b.val * S + s.val) * 1024 + (h.val * 64 + d.val) = ((b.val * S + s.val) * 16 + h.val) * 64 + d.val
    omega
  · fin_cases a
    · show b.val = 0 + b.val; omega
    · show s.val = 0 + s.val; omega
    · show p.val * 1024 + h.val * 64 + d.val = o + (h.val * 64 + d.val); omega
  · rewrite [Shape.rowMajor_val_three, Shape.rowMajor_val_two]
    show r.val * 3072 + (colOf p h d).val = (b.val * S + s.val) * 3072 + (colOf p h d).val
    rw [er]

/-- Heads `y` whose first halves are turned with their second, and their second with their first, by cosines `c` and sines `z`
    that are along the heads what they are at a row, read at an index. -/
theorem turn_apply {B S : ℕ} (y : FVec Ideal ⟨4, ![B, S, 16, 64]⟩ .f32) (c z : FVec Ideal ⟨4, ![B, S, 16, 32]⟩ .f32)
    (hl : (⟨4, ![B, S, 16, 64]⟩ : Shape).Slices ![0, 0, 0, 0] ⟨4, ![B, S, 16, 32]⟩)
    (hh : (⟨4, ![B, S, 16, 64]⟩ : Shape).Slices ![0, 0, 0, 32] ⟨4, ![B, S, 16, 32]⟩)
    (hc : Shape.Concatenates [⟨4, ![B, S, 16, 32]⟩, ⟨4, ![B, S, 16, 32]⟩] ⟨4, ![B, S, 16, 64]⟩ 3)
    (b : Fin B) (s : Fin S) (h : Fin 16) (d : Fin 64) (C Z : Fin 32 → EReal)
    (ec : ∀ j, c (ix4 b s h j) = C j) (ez : ∀ j, z (ix4 b s h j) = Z j) :
    concatenate ⟨4, ![B, S, 16, 64]⟩ 3
      [⟨⟨4, ![B, S, 16, 32]⟩, subf (mulf (extractStridedSlice ⟨4, ![B, S, 16, 32]⟩ ![0, 0, 0, 0] y hl) c)
        (mulf (extractStridedSlice ⟨4, ![B, S, 16, 32]⟩ ![0, 0, 0, 32] y hh) z)⟩,
      ⟨⟨4, ![B, S, 16, 32]⟩, addf (mulf (extractStridedSlice ⟨4, ![B, S, 16, 32]⟩ ![0, 0, 0, 32] y hh) c)
        (mulf (extractStridedSlice ⟨4, ![B, S, 16, 32]⟩ ![0, 0, 0, 0] y hl) z)⟩] hc (ix4 b s h d)
      = turned (fun k => y (ix4 b s h k)) C Z d := by
  have el (j : Fin 32) : extractStridedSlice ⟨4, ![B, S, 16, 32]⟩ ![0, 0, 0, 0] y hl (ix4 b s h j) = y (ix4 b s h (lo j)) :=
    extractStridedSlice_apply _ y hl _ _ fun a => by fin_cases a <;> exact (Nat.zero_add _).symm
  have eh (j : Fin 32) : extractStridedSlice ⟨4, ![B, S, 16, 32]⟩ ![0, 0, 0, 32] y hh (ix4 b s h j) = y (ix4 b s h (hi j)) :=
    extractStridedSlice_apply _ y hh _ _ fun a => by
      fin_cases a
      · exact (Nat.zero_add _).symm
      · exact (Nat.zero_add _).symm
      · exact (Nat.zero_add _).symm
      · rfl
  rcases lo_or_hi d with ⟨j, rfl⟩ | ⟨j, rfl⟩
  · refine (concatenate_pair_apply_left (s₁ := ⟨4, ![B, S, 16, 32]⟩) (s₂ := ⟨4, ![B, S, 16, 32]⟩) 3 _ _ hc (ix4 b s h (lo j)) rfl
      (ix4 b s h j) (fun a => by fin_cases a <;> rfl)).trans ?_
    rw [turned_lo, ← ec, ← ez, ← el, ← eh]
    rfl
  · refine (concatenate_pair_apply_right (s₁ := ⟨4, ![B, S, 16, 32]⟩) (s₂ := ⟨4, ![B, S, 16, 32]⟩) 3 _ _ hc (ix4 b s h (hi j)) rfl rfl
      (ix4 b s h j) (fun a ha => ?_) ?_).trans ?_
    · fin_cases a
      · rfl
      · rfl
      · rfl
      · exact absurd rfl ha
    · show j.val + 32 = 32 + j.val; omega
    · rw [turned_hi, ← ec, ← ez, ← el, ← eh]
      rfl

/-! ## The kernel's tables -/

/-- Two halves side by side, the whole of it twice. -/
def twice {S : ℕ} (a b : FVec Ideal ⟨2, ![S, 32]⟩ .f32)
    (hc : Shape.Concatenates [⟨2, ![S, 32]⟩, ⟨2, ![S, 32]⟩] ⟨2, ![S, 64]⟩ 1)
    (h1 : Shape.ShapeCasts ⟨2, ![S, 64]⟩ ⟨4, ![1, S, 1, 64]⟩)
    (hb : (⟨4, ![1, S, 1, 64]⟩ : Shape).BroadcastsInDim ⟨4, ![1, S, 2, 64]⟩ ![0, 1, 2, 3])
    (h2 : Shape.ShapeCasts ⟨4, ![1, S, 2, 64]⟩ ⟨2, ![S, 128]⟩) : FVec Ideal ⟨2, ![S, 128]⟩ .f32 :=
  shapeCast ⟨2, ![S, 128]⟩ (broadcastInDim ⟨4, ![1, S, 2, 64]⟩ ![0, 1, 2, 3] hb (shapeCast ⟨4, ![1, S, 1, 64]⟩
    (concatenate ⟨2, ![S, 64]⟩ 1 [⟨⟨2, ![S, 32]⟩, a⟩, ⟨⟨2, ![S, 32]⟩, b⟩] hc) h1)) h2

section
variable {S : ℕ} (a b : FVec Ideal ⟨2, ![S, 32]⟩ .f32) (hc : Shape.Concatenates [⟨2, ![S, 32]⟩, ⟨2, ![S, 32]⟩] ⟨2, ![S, 64]⟩ 1)
  (h1 : Shape.ShapeCasts ⟨2, ![S, 64]⟩ ⟨4, ![1, S, 1, 64]⟩)
  (hb : (⟨4, ![1, S, 1, 64]⟩ : Shape).BroadcastsInDim ⟨4, ![1, S, 2, 64]⟩ ![0, 1, 2, 3])
  (h2 : Shape.ShapeCasts ⟨4, ![1, S, 2, 64]⟩ ⟨2, ![S, 128]⟩) (s : Fin S)

theorem twice_apply (d : Fin 64) : twice a b hc h1 hb h2 (ix2 s (⟨d.val, by omega⟩ : Fin 128))
    = concatenate ⟨2, ![S, 64]⟩ 1 [⟨⟨2, ![S, 32]⟩, a⟩, ⟨⟨2, ![S, 32]⟩, b⟩] hc (ix2 s d) := by
  unfold twice
  refine (shapeCast_apply _ h2 _ (ix4 (0 : Fin 1) s (0 : Fin 2) d) ?_).trans
    ((broadcastInDim_apply _ hb _ _ (ix4 (0 : Fin 1) s (0 : Fin 1) d) fun a => ?_).trans (shapeCast_apply _ h1 _ _ ?_))
  · rewrite [Shape.rowMajor_val_four, Shape.rowMajor_val_two]
    show ((0 * S + s.val) * 2 + 0) * 64 + d.val = s.val * 128 + d.val
    omega
  · have hs := s.isLt
    fin_cases a
    · rfl
    · show s.val = if S = 1 then 0 else s.val
      split_ifs <;> omega
    · rfl
    · rfl
  · rewrite [Shape.rowMajor_val_four, Shape.rowMajor_val_two]
    show s.val * 64 + d.val = ((0 * S + s.val) * 1 + 0) * 64 + d.val
    omega

/-- It holds at a column of the first half the first table, at one of the second half the second. -/
theorem twice_lo (j : Fin 32) : twice a b hc h1 hb h2 (ix2 s (⟨(lo j).val, by omega⟩ : Fin 128)) = a (ix2 s j) := by
  rw [twice_apply]
  exact concatenate_pair_apply_left (s₁ := ⟨2, ![S, 32]⟩) (s₂ := ⟨2, ![S, 32]⟩) 1 _ _ hc (ix2 s (lo j)) rfl (ix2 s j)
    (fun a => by fin_cases a <;> rfl)

theorem twice_hi (j : Fin 32) : twice a b hc h1 hb h2 (ix2 s (⟨(hi j).val, by omega⟩ : Fin 128)) = b (ix2 s j) := by
  rw [twice_apply]
  refine concatenate_pair_apply_right (s₁ := ⟨2, ![S, 32]⟩) (s₂ := ⟨2, ![S, 32]⟩) 1 _ _ hc (ix2 s (hi j)) rfl rfl (ix2 s j)
    (fun a ha => ?_) ?_
  · fin_cases a
    · rfl
    · exact absurd rfl ha
  · show j.val + 32 = 32 + j.val; omega

end

/-! ## The loads and stores of `T` rows -/

section
variable {F : FTy → Type} [FloatOps F] {T : ℕ}

theorem colsInb (p : Fin 3) (h : Fin 16) (a : Fin 2) :
    (![0, p.val * 1024 + h.val * 64] : Fin 2 → ℕ) a + (⟨2, ![T, 64]⟩ : Shape).size a ≤ (⟨2, ![T, 3072]⟩ : Shape).size a := by
  fin_cases a
  · show 0 + T ≤ T; omega
  · show p.val * 1024 + h.val * 64 + 64 ≤ 3072; omega

/-- A head's columns of a block of rows. -/
def cols (x : Vec F ⟨2, ![T, 3072]⟩ .f32) (p : Fin 3) (h : Fin 16) : Vec F ⟨2, ![T, 64]⟩ .f32 :=
  View.ld x (Rect.unit (s := ⟨2, ![T, 3072]⟩) ![0, p.val * 1024 + h.val * 64] (⟨2, ![T, 64]⟩ : Shape).size (colsInb p h))

theorem cols_apply (x : Vec F ⟨2, ![T, 3072]⟩ .f32) (p : Fin 3) (h : Fin 16) (r : Fin T) (d : Fin 64) :
    cols x p h (ix2 r d) = x (ix2 r (colOf p h d)) :=
  View.ld_unit_apply_of _ _ _ _ _ _ fun a => by
    fin_cases a
    · exact (Nat.zero_add _).symm
    · rfl

/-- The first 64 columns of a block of a table. -/
theorem table_apply (x : Vec F ⟨2, ![T, 128]⟩ .f32)
    (inb : ∀ a, (![0, 0] : Fin 2 → ℕ) a + (⟨2, ![T, 64]⟩ : Shape).size a ≤ (⟨2, ![T, 128]⟩ : Shape).size a) (r : Fin T) (d : Fin 64) :
    View.ld x (Rect.unit (s := ⟨2, ![T, 128]⟩) ![0, 0] (⟨2, ![T, 64]⟩ : Shape).size inb) (ix2 r d)
      = x (ix2 r (⟨d.val, by omega⟩ : Fin 128)) :=
  View.ld_unit_apply_of _ _ _ _ _ _ fun a => by fin_cases a <;> exact (Nat.zero_add _).symm

/-- Turned by the tables' row `s`, a row's head is turned by the cosines and the sines at `s`. -/
theorem rotated_tables {S : ℕ} (ct st : FVec Ideal ⟨2, ![S, 32]⟩ .f32)
    (hc : Shape.Concatenates [⟨2, ![S, 32]⟩, ⟨2, ![S, 32]⟩] ⟨2, ![S, 64]⟩ 1) (h1 : Shape.ShapeCasts ⟨2, ![S, 64]⟩ ⟨4, ![1, S, 1, 64]⟩)
    (hb : (⟨4, ![1, S, 1, 64]⟩ : Shape).BroadcastsInDim ⟨4, ![1, S, 2, 64]⟩ ![0, 1, 2, 3])
    (h2 : Shape.ShapeCasts ⟨4, ![1, S, 2, 64]⟩ ⟨2, ![S, 128]⟩) (y : Fin 64 → EReal) (u v : Vec Ideal ⟨2, ![T, 128]⟩ .f32)
    (inb : ∀ a, (![0, 0] : Fin 2 → ℕ) a + (⟨2, ![T, 64]⟩ : Shape).size a ≤ (⟨2, ![T, 128]⟩ : Shape).size a) (r : Fin T) (s : Fin S)
    (hu : ∀ k : Fin 128, u (ix2 r k) = twice ct ct hc h1 hb h2 (ix2 s k))
    (hv : ∀ k : Fin 128, v (ix2 r k) = twice (Host.negf st) st hc h1 hb h2 (ix2 s k)) (d : Fin 64) :
    rotated y (fun k => View.ld u (Rect.unit (s := ⟨2, ![T, 128]⟩) ![0, 0] (⟨2, ![T, 64]⟩ : Shape).size inb) (ix2 r k))
        (fun k => View.ld v (Rect.unit (s := ⟨2, ![T, 128]⟩) ![0, 0] (⟨2, ![T, 64]⟩ : Shape).size inb) (ix2 r k)) d
      = turned y (fun j => ct (ix2 s j)) (fun j => st (ix2 s j)) d := by
  refine rotated_eq y _ _ _ _ (fun j => ?_) (fun j => ?_) (fun j => ?_) (fun j => ?_) d
  · exact (table_apply u inb r (lo j)).trans ((hu _).trans (twice_lo _ _ hc h1 hb h2 s j))
  · exact (table_apply u inb r (hi j)).trans ((hu _).trans (twice_hi _ _ hc h1 hb h2 s j))
  · exact (table_apply v inb r (lo j)).trans ((hv _).trans (twice_lo _ _ hc h1 hb h2 s j))
  · exact (table_apply v inb r (hi j)).trans ((hv _).trans (twice_hi _ _ hc h1 hb h2 s j))

theorem headInb (k : Fin 16) (a : Fin 4) : (![0, 15 - k.val, 0, 0] : Fin 4 → ℕ) a + (⟨4, ![1, 1, T, 64]⟩ : Shape).size a
    ≤ (⟨4, ![1, 16, T, 64]⟩ : Shape).size a := by
  fin_cases a
  · show 0 + 1 ≤ 1; omega
  · show 15 - k.val + 1 ≤ 16; omega
  · show 0 + T ≤ T; omega
  · show 0 + 64 ≤ 64; omega

/-- The stores of the sixteen heads `P`, the last head first. -/
def stores (P : Fin 16 → FVec F ⟨4, ![1, 1, T, 64]⟩ .f32) : List (View.Piece (Elt F) ⟨4, ![1, 16, T, 64]⟩ .f32) :=
  List.ofFn fun k : Fin 16 =>
    ⟨Rect.unit (s := ⟨4, ![1, 16, T, 64]⟩) ![0, 15 - k.val, 0, 0] (⟨4, ![1, 1, T, 64]⟩ : Shape).size (headInb k), P k.rev⟩

/-- Read back, head `h` is `P h`. -/
theorem stores_apply (P : Fin 16 → FVec F ⟨4, ![1, 1, T, 64]⟩ .f32) (h : Fin 16) (r : Fin T) (d : Fin 64) :
    View.canon (stores P) (ix4 (0 : Fin 1) h r d) = P h (ix4 (0 : Fin 1) (0 : Fin 1) r d) := by
  refine View.canon_ofFn_unit_eq_of_forall (Val := Elt F) (S := ⟨4, ![1, 16, T, 64]⟩) (e := .f32) (N := 16)
    (fun k : Fin 16 => ![0, 15 - k.val, 0, 0]) (⟨4, ![1, 1, T, 64]⟩ : Shape).size headInb (fun k => P k.rev) (ix4 (0 : Fin 1) h r d) _
    ⟨h.rev, fun a => ?_⟩ fun k x hx => ?_
  · fin_cases a
    · exact ⟨le_refl 0, show 0 < 0 + 1 by omega⟩
    · show 15 - (16 - (h.val + 1)) ≤ h.val ∧ h.val < 15 - (16 - (h.val + 1)) + 1; omega
    · exact ⟨Nat.zero_le _, show r.val < 0 + T by omega⟩
    · exact ⟨Nat.zero_le _, show d.val < 0 + 64 by omega⟩
  · have h1 : h.val = 15 - k.val + (x 1).val := hx 1
    have h2 : r.val = 0 + (x 2).val := hx 2
    have h3 : d.val = 0 + (x 3).val := hx 3
    have b0 : (x 0).val < 1 := (x 0).isLt
    have b1 : (x 1).val < 1 := (x 1).isLt
    have ek : k.rev = h := Fin.ext (by show 16 - (k.val + 1) = h.val; omega)
    have ex : x = ix4 (0 : Fin 1) (0 : Fin 1) r d := by
      funext a
      apply Fin.ext
      fin_cases a
      · show (x 0).val = 0; omega
      · show (x 1).val = 0; omega
      · show (x 2).val = r.val; omega
      · show (x 3).val = d.val; omega
    rw [ek, ex]

end

end Cert.Proof.Heads

end
-- ==== Proof.Heads.lean ====
/- Queries, keys and values (programs 8 and 10). A grid point takes a block of one sequence's rows and writes, head by head, the
   normed and turned queries and keys, and the values: on the batch 256 rows of 4 sequences' 4096, on the sample a sequence's 8. -/
module

public import proofs.«01_k».proof.Defs
public import proofs.«01_k».proof.Proof.Head
public import proofs.«01_k».proof.Proof.Gen.Kernel8Ideal.Value
public import proofs.«01_k».proof.Proof.Gen.Reference8Ideal.Read
public import proofs.«01_k».proof.Proof.Gen.Kernel10Ideal.Value
public import proofs.«01_k».proof.Proof.Gen.Reference10Ideal.Read
public import Idealize.ShloMosaic.Lib.Pipeline.ValueKit.Geometry

@[expose] public section

noncomputable section

namespace Cert.Proof.Heads

open Cert.Proof.Tokens (place one_row off2)
open Idealize.ShloMosaic Idealize.ShloMosaic.TcCoe Idealize.SL.Sem Idealize.ShloMosaic.StableHlo

/-- The scale of the queries. -/
abbrev scale : EReal := FloatOps.ofBits (F := Ideal) .f32 0x3E000000#32

/-! ## The batch's -/

/-- The row of position `s` of sequence `b`. -/
def rowOf (b : Fin 4) (s : Fin 4096) : Fin 16384 := ⟨b.val * 4096 + s.val, by omega⟩

section
open Cert.Reference8Ideal Cert.Reference8Ideal.Gen Cert.Reference8Ideal.Read

/-- The cosines and sines of a position's angles. -/
def cosAt (s : Fin 4096) (j : Fin 32) : EReal := val_main_v31 (F := Ideal) (ix2 s j)
def sinAt (s : Fin 4096) (j : Fin 32) : EReal := val_main_v33 (F := Ideal) (ix2 s j)

/-- A position's head `h` of columns `p`, normed with the gain `g` and turned. -/
def headAt (x : Vec Ideal S16384x3072 .f32) (g : Vec Ideal S64 .f32) (p : Fin 3) (b : Fin 4) (s : Fin 4096) (h : Fin 16) : Fin 64 → EReal :=
  turned (headNorm (fun k => x (ix2 (rowOf b s) (colOf p h k))) fun k => g (ix1 k)) (cosAt s) (sinAt s)

theorem cos_apply (b : Fin 4) (s : Fin 4096) (h : Fin 16) (j : Fin 32) : val_main_v38 (F := Ideal) (ix4 b s h j) = cosAt s j := by
  unfold val_main_v38 val_main_v37 val_main_v32 cosAt
  generalize val_main_v31 (F := Ideal) = z
  pointwise []

theorem sin_apply (b : Fin 4) (s : Fin 4096) (h : Fin 16) (j : Fin 32) : val_main_v41 (F := Ideal) (ix4 b s h j) = sinAt s j := by
  unfold val_main_v41 val_main_v40 val_main_v34 sinAt
  generalize val_main_v33 (F := Ideal) = z
  pointwise []

variable (x : Vec Ideal S16384x3072 .f32) (g : Vec Ideal S64 .f32) (b : Fin 4) (s : Fin 4096) (h : Fin 16) (d : Fin 64)

/-- The reference's queries are normed, -/
theorem norm_q : val_main_v18 x g (ix4 b s h d) = headNorm (fun k => val_main_v5 x (ix4 b s h k)) (fun k => g (ix1 k)) d := by
  unfold val_main_v18 val_main_v15 val_main_v14 val_main_v13 val_main_v12 val_main_v10 val_main_v8 val_main_v7 val_main_v6
  generalize val_main_v5 x = u
  pointwise [val_main_v17, val_main_v16, val_main_v11, val_main_v9, val_main_cst, val_main_cst_0, val_main_cst_1]
  rfl

/-- so are its keys. -/
theorem norm_k : val_main_v67 x g (ix4 b s h d) = headNorm (fun k => val_main_v54 x (ix4 b s h k)) (fun k => g (ix1 k)) d := by
  unfold val_main_v67 val_main_v64 val_main_v63 val_main_v62 val_main_v61 val_main_v59 val_main_v57 val_main_v56 val_main_v55
  generalize val_main_v54 x = u
  pointwise [val_main_v66, val_main_v65, val_main_v60, val_main_v58, val_main_cst_5, val_main_cst_6, val_main_cst_7]
  rfl

/-- The reference's queries, -/
theorem ref_q : val_main_v102 x g (ix4 b h s d) = headAt x g 0 b s h d * scale := by
  have e : val_main_v51 x g (ix4 b s h d) = headAt x g 0 b s h d :=
    (turn_apply (val_main_v18 x g) (val_main_v38 (F := Ideal)) (val_main_v41 (F := Ideal)) _ _ _ b s h d (cosAt s) (sinAt s) (cos_apply b s h) (sin_apply b s h)).trans
      (congrArg (fun y => turned y _ _ d) (funext fun k => (norm_q x g b s h k).trans
        (congrArg (fun u => headNorm u _ k) (funext fun k => heads_of x _ _ _ _ 0 b s h k (rowOf b s) rfl rfl))))
  rw [← e]
  unfold val_main_v102 val_main_v53 val_main_v52 val_main_cst_4
  generalize val_main_v51 x g = z
  pointwise []

/-- its keys, -/
theorem ref_k : val_main_v103 x g (ix4 b h s d) = headAt x g 1 b s h d := by
  have e : val_main_v100 x g (ix4 b s h d) = headAt x g 1 b s h d :=
    (turn_apply (val_main_v67 x g) (val_main_v38 (F := Ideal)) (val_main_v41 (F := Ideal)) _ _ _ b s h d (cosAt s) (sinAt s) (cos_apply b s h) (sin_apply b s h)).trans
      (congrArg (fun y => turned y _ _ d) (funext fun k => (norm_k x g b s h k).trans
        (congrArg (fun u => headNorm u _ k) (funext fun k => heads_of x _ _ _ _ 1 b s h k (rowOf b s) rfl rfl))))
  rw [← e]
  unfold val_main_v103
  generalize val_main_v100 x g = z
  pointwise []

/-- and its values. -/
theorem ref_v : val_main_v104 x (ix4 b h s d) = x (ix2 (rowOf b s) (colOf 2 h d)) := by
  refine Eq.trans ?_ (heads_of x Gen.shapeCasts_S16384x3072_S4x4096x3072 2048 Gen.slices_S4x4096x3072_S4x4096x1024_0_0_2048
    Gen.shapeCasts_S4x4096x1024_S4x4096x16x64 2 b s h d (rowOf b s) rfl rfl)
  show val_main_v104 x (ix4 b h s d) = val_main_v101 x (ix4 b s h d)
  unfold val_main_v104
  generalize val_main_v101 x = z
  pointwise []

end

section
open Cert.Kernel8Ideal Cert.Kernel8Ideal.Gen Cert.Kernel8Ideal.Value

/-- One head of the keys, from its columns, the gain and the tables. -/
def kHead {F : FTy → Type} [FloatOps F] (cos sin v : Vec F S256x64 .f32) (g : Vec F S1x64 .f32) : FVec F S1x1x256x64 .f32 :=
  k0_pay7 (k0_pay2 cos) (k0_pay3 sin) v (k0_pay5 g) (k0_pay6 v)

theorem kHead_apply (cos sin v : Vec Ideal S256x64 .f32) (g : Vec Ideal S1x64 .f32) (r : Fin 256) (d : Fin 64) :
    kHead cos sin v g (ix4 (0 : Fin 1) (0 : Fin 1) r d)
      = rotated (headNorm (fun k => v (ix2 r k)) fun k => g (ix2 (0 : Fin 1) k)) (fun k => cos (ix2 r k)) (fun k => sin (ix2 r k)) d := by
  pointwise [kHead, k0_pay7, k0_pay2, k0_pay3, k0_pay5, k0_pay6]
  rfl

/-- A head of the queries is one of the keys, scaled. -/
theorem qHead_apply (cos sin v : Vec Ideal S256x64 .f32) (g : Vec Ideal S1x64 .f32) (r : Fin 256) (d : Fin 64) :
    k0_pay4 cos sin v g (ix4 (0 : Fin 1) (0 : Fin 1) r d) = kHead cos sin v g (ix4 (0 : Fin 1) (0 : Fin 1) r d) * scale := by
  pointwise [kHead, k0_pay4, k0_pay7, k0_pay2, k0_pay3, k0_pay5, k0_pay6]

theorem vHead_apply (v : Vec Ideal S256x64 .f32) (r : Fin 256) (d : Fin 64) :
    k0_pay1 v (ix4 (0 : Fin 1) (0 : Fin 1) r d) = v (ix2 r d) := by
  pointwise [k0_pay1]

variable (m : (ℓ : Loc nD τ sig) → Buf (Elt Ideal) ℓ)

/-- The region finds the table of the cosines, -/
theorem found_cos (c : Dev nD) : V m c main_v18 = twice (S := 4096) (Cert.Reference8Ideal.Read.val_main_v31 (F := Ideal))
    (Cert.Reference8Ideal.Read.val_main_v31 (F := Ideal)) concatenates_S4096x32_S4096x32_S4096x64_d1 shapeCasts_S4096x64_S1x4096x1x64
    bcast_S1x4096x1x64_S1x4096x2x64_0_1_2_3 shapeCasts_S1x4096x2x64_S4096x128 := by
  dsimp only [V, hostOps0]; after_results <;> rfl
/-- that of the sines, with the sign changed in the first half, -/
theorem found_sin (c : Dev nD) : V m c main_v23 = twice (S := 4096) (Host.negf (Cert.Reference8Ideal.Read.val_main_v33 (F := Ideal)))
    (Cert.Reference8Ideal.Read.val_main_v33 (F := Ideal)) concatenates_S4096x32_S4096x32_S4096x64_d1 shapeCasts_S4096x64_S1x4096x1x64
    bcast_S1x4096x1x64_S1x4096x2x64_0_1_2_3 shapeCasts_S1x4096x2x64_S4096x128 := by
  dsimp only [V, hostOps0]; after_results <;> rfl
/-- and the gains as rows. -/
theorem found_q (c : Dev nD) : V m c main_v24 = shapeCast _ (m ((c : Thread nD τ).loc main_arg1)) shapeCasts_S64_S1x64 := by
  dsimp only [V, hostOps0]; after_results <;> rfl
theorem found_k (c : Dev nD) : V m c main_v25 = shapeCast _ (m ((c : Thread nD τ).loc main_arg2)) shapeCasts_S64_S1x64 := by
  dsimp only [V, hostOps0]; after_results <;> rfl

/-- Grid point `t` works on block `t % 16` of sequence `t / 16`. -/
theorem idx : ∀ t : Fin cfg0.N, (win0_0.index t = ![t.val, 0] ∧ win0_1.index t = ![0, 0] ∧ win0_2.index t = ![0, 0]
    ∧ win0_3.index t = ![t.val % 16, 0] ∧ win0_4.index t = ![t.val % 16, 0])
    ∧ (win0_5.index t = ![t.val / 16, 0, t.val % 16, 0] ∧ win0_6.index t = ![t.val / 16, 0, t.val % 16, 0]
    ∧ win0_7.index t = ![t.val / 16, 0, t.val % 16, 0]) ∧ t.val / 16 < 4 ∧ (t.val % 16 + 1) * 256 ≤ 4096 :=
  (by decide +kernel : ∀ t : Fin grid0.N, _)

variable (c : Dev nD) (t : Fin cfg0.N) (h : Fin 16) (r : Fin 256) (d : Fin 64)

/-- Of the gains a point reads all, -/
theorem gain_q : iblk m c 1 t (ix2 (0 : Fin 1) d) = (m ((c : Thread nD τ).loc main_arg1) : Vec Ideal S64 .f32) (ix1 d) := by
  obtain ⟨⟨-, i1, -⟩, -⟩ := idx t
  refine (congrArg (V m c main_v24) (?_ : _ = ix2 (0 : Fin 1) d)).trans ((congrFun (found_q m c) _).trans (one_row _ _ d))
  blk_ext [i1]
theorem gain_k : iblk m c 2 t (ix2 (0 : Fin 1) d) = (m ((c : Thread nD τ).loc main_arg2) : Vec Ideal S64 .f32) (ix1 d) := by
  obtain ⟨⟨-, -, i2, -⟩, -⟩ := idx t
  refine (congrArg (V m c main_v25) (?_ : _ = ix2 (0 : Fin 1) d)).trans ((congrFun (found_k m c) _).trans (one_row _ _ d))
  blk_ext [i2]

variable (hb : t.val / 16 < 4) (hs : (t.val % 16 + 1) * 256 ≤ 4096)

/-- and of the columns those of its positions. -/
theorem found_cols (p : Fin 3) : cols (iblk m c 0 t) p h (ix2 r d) = (m ((c : Thread nD τ).loc main_arg0) : Vec Ideal S16384x3072 .f32)
    (ix2 (rowOf ⟨t.val / 16, hb⟩ (place 256 (t.val % 16) r hs)) (colOf p h d)) := by
  obtain ⟨⟨i0, -⟩, -⟩ := idx t
  rw [cols_apply]
  refine (congrFun (V_main_arg0 m c) _).trans (congrArg _ ?_); blk_ext [i0, rowOf, place]

/-- A point's head of the keys (of the queries, before the scale), from columns `p` with the gain `g`. -/
theorem found_head (p : Fin 3) (g : Vec Ideal S1x64 .f32) (G : Vec Ideal S64 .f32) (eg : ∀ k, g (ix2 (0 : Fin 1) k) = G (ix1 k)) :
    kHead (View.ld (iblk m c 3 t) r0_0) (View.ld (iblk m c 4 t) r0_0) (cols (iblk m c 0 t) p h) (View.ld g r0_2)
        (ix4 (0 : Fin 1) (0 : Fin 1) r d)
      = headAt (m ((c : Thread nD τ).loc main_arg0)) G p ⟨t.val / 16, hb⟩ (place 256 (t.val % 16) r hs) h d := by
  obtain ⟨⟨-, -, -, i3, i4⟩, -⟩ := idx t
  have e3 (k : Fin 128) : iblk m c 3 t (ix2 r k) = V m c main_v18 (ix2 (place 256 (t.val % 16) r hs) k) := by
    refine congrArg (V m c main_v18) ?_; blk_ext [i3, place]
  have e4 (k : Fin 128) : iblk m c 4 t (ix2 r k) = V m c main_v23 (ix2 (place 256 (t.val % 16) r hs) k) := by
    refine congrArg (V m c main_v23) ?_; blk_ext [i4, place]
  refine (kHead_apply _ _ _ _ r d).trans ((rotated_tables _ _ _ _ _ _ _ _ _ _ r _ (fun k => (e3 k).trans (congrFun (found_cos m c) _))
    (fun k => (e4 k).trans (congrFun (found_sin m c) _)) d).trans ?_)
  rw [View.ld_unit_zero (S := S1x64) off2 _ g]
  simp only [found_cols m c t h r _ hb hs p, eg]
  rfl

section
variable {F : FTy → Type} [FloatOps F] (x0 : Vec F S256x3072 .f32) (x1 x2 : Vec F S1x64 .f32) (x3 x4 : Vec F S256x128 .f32)

/-- What a point leaves of the queries, the keys and the values. -/
theorem left_q : out0_5 x0 x1 x2 x3 x4
    = View.canon (stores fun h => k0_pay4 (View.ld x3 r0_0) (View.ld x4 r0_0) (cols x0 0 h) (View.ld x1 r0_2)) := rfl
theorem left_k : out0_6 x0 x1 x2 x3 x4
    = View.canon (stores fun h => kHead (View.ld x3 r0_0) (View.ld x4 r0_0) (cols x0 1 h) (View.ld x2 r0_2)) := rfl
theorem left_v : out0_7 x0 x1 x2 x3 x4 = View.canon (stores fun h => k0_pay1 (cols x0 2 h)) := rfl

end

/-- The queries after the run are the reference's, -/
theorem final_q (c : Dev nD) : (dats m 0 c).arrAt 5 cfg0.N = Cert.Reference8Ideal.Read.val_main_v102
    (m ((c : Thread nD τ).loc main_arg0)) (m ((c : Thread nD τ).loc main_arg1)) := by
  refine (dats m 0 c).arrAt_eq_of_covers 5 _ (by decide +kernel) fun t _ y => ?_
  obtain ⟨z, h, r, d, rfl⟩ : ∃ (z : Fin 1) (h : Fin 16) (r : Fin 256) (d : Fin 64), y = ix4 z h r d := ⟨y 0, y 1, y 2, y 3, eq_ix4 y⟩
  obtain rfl := Subsingleton.elim z 0
  obtain ⟨-, ⟨i5, -⟩, hb, hs⟩ := idx t
  blk_simp
  rw [after0_5, left_q, stores_apply, show (win0_5.blk t).view.emb (ix4 (0 : Fin 1) h r d) = ix4 ⟨t.val / 16, hb⟩ h (place 256 (t.val % 16) r hs) d from
    by blk_ext [i5, place], ref_q]
  exact (qHead_apply _ _ _ _ r d).trans (congrArg (· * scale) (found_head m c t h r d hb hs 0 _ _ (gain_q m c t)))

/-- so the keys, -/
theorem final_k (c : Dev nD) : (dats m 0 c).arrAt 6 cfg0.N = Cert.Reference8Ideal.Read.val_main_v103
    (m ((c : Thread nD τ).loc main_arg0)) (m ((c : Thread nD τ).loc main_arg2)) := by
  refine (dats m 0 c).arrAt_eq_of_covers 6 _ (by decide +kernel) fun t _ y => ?_
  obtain ⟨z, h, r, d, rfl⟩ : ∃ (z : Fin 1) (h : Fin 16) (r : Fin 256) (d : Fin 64), y = ix4 z h r d := ⟨y 0, y 1, y 2, y 3, eq_ix4 y⟩
  obtain rfl := Subsingleton.elim z 0
  obtain ⟨-, ⟨-, i6, -⟩, hb, hs⟩ := idx t
  blk_simp
  rw [after0_6, left_k, stores_apply, show (win0_6.blk t).view.emb (ix4 (0 : Fin 1) h r d) = ix4 ⟨t.val / 16, hb⟩ h (place 256 (t.val % 16) r hs) d from
    by blk_ext [i6, place], ref_k]
  exact found_head m c t h r d hb hs 1 _ _ (gain_k m c t)

/-- and the values. -/
theorem final_v (c : Dev nD) : (dats m 0 c).arrAt 7 cfg0.N = Cert.Reference8Ideal.Read.val_main_v104 (m ((c : Thread nD τ).loc main_arg0)) := by
  refine (dats m 0 c).arrAt_eq_of_covers 7 _ (by decide +kernel) fun t _ y => ?_
  obtain ⟨z, h, r, d, rfl⟩ : ∃ (z : Fin 1) (h : Fin 16) (r : Fin 256) (d : Fin 64), y = ix4 z h r d := ⟨y 0, y 1, y 2, y 3, eq_ix4 y⟩
  obtain rfl := Subsingleton.elim z 0
  obtain ⟨-, ⟨-, -, i7⟩, hb, hs⟩ := idx t
  blk_simp
  rw [after0_7, left_v, stores_apply, show (win0_7.blk t).view.emb (ix4 (0 : Fin 1) h r d) = ix4 ⟨t.val / 16, hb⟩ h (place 256 (t.val % 16) r hs) d from
    by blk_ext [i7, place], ref_v]
  exact (vHead_apply _ r d).trans (found_cols m c t h r d hb hs 2)

theorem algebraic : Cert.algebraic_Kernel8Ideal_Reference8Ideal := by
  intro m ρ m' ρ' _ hagree
  refine ⟨_, _, _, run_blocks m ρ, ?_⟩
  refine (θ_run Cert.Reference8Ideal.defs _ _).mono (fun _ h c => ⟨?_, ?_, ?_, (h c).2.2.2⟩) (Cert.Reference8Ideal.Value.run (F := Ideal) m' ρ')
    <;> obtain ⟨e0, e1, e2⟩ := hagree c
  · rw [(h c).1, final_q, ← e0, ← e1]
    exact Cert.Reference8Ideal.Read.val_main_v102_eq _ _
  · rw [(h c).2.1, final_k, ← e0, ← e2]
    exact Cert.Reference8Ideal.Read.val_main_v103_eq _ _
  · rw [(h c).2.2.1, final_v, ← e0]
    exact Cert.Reference8Ideal.Read.val_main_v104_eq _

end

/-! ## The sample's -/

namespace Sample

/-- The row of position `s` of the sample's sequence `b`. -/
def rowOf (b : Fin 32) (s : Fin 8) : Fin 256 := ⟨b.val * 8 + s.val, by omega⟩

section
open Cert.Reference10Ideal Cert.Reference10Ideal.Gen Cert.Reference10Ideal.Read

/-- The cosines and sines of a position's angles. -/
def cosAt (s : Fin 8) (j : Fin 32) : EReal := val_main_v33 (F := Ideal) (ix2 s j)
def sinAt (s : Fin 8) (j : Fin 32) : EReal := val_main_v35 (F := Ideal) (ix2 s j)

/-- A position's head `h` of columns `p`, normed with the gain `g` and turned. -/
def headAt (x : Vec Ideal S256x3072 .f32) (g : Vec Ideal S64 .f32) (p : Fin 3) (b : Fin 32) (s : Fin 8) (h : Fin 16) : Fin 64 → EReal :=
  turned (headNorm (fun k => x (ix2 (rowOf b s) (colOf p h k))) fun k => g (ix1 k)) (cosAt s) (sinAt s)

theorem cos_apply (b : Fin 32) (s : Fin 8) (h : Fin 16) (j : Fin 32) : val_main_v40 (F := Ideal) (ix4 b s h j) = cosAt s j := by
  unfold val_main_v40 val_main_v39 val_main_v34 cosAt
  generalize val_main_v33 (F := Ideal) = z
  pointwise []

theorem sin_apply (b : Fin 32) (s : Fin 8) (h : Fin 16) (j : Fin 32) : val_main_v43 (F := Ideal) (ix4 b s h j) = sinAt s j := by
  unfold val_main_v43 val_main_v42 val_main_v36 sinAt
  generalize val_main_v35 (F := Ideal) = z
  pointwise []

variable (x : Vec Ideal S256x3072 .f32) (g : Vec Ideal S64 .f32) (b : Fin 32) (s : Fin 8) (h : Fin 16) (d : Fin 64)

theorem norm_q : val_main_v20 x g (ix4 b s h d) = headNorm (fun k => val_main_v7 x (ix4 b s h k)) (fun k => g (ix1 k)) d := by
  unfold val_main_v20 val_main_v17 val_main_v16 val_main_v15 val_main_v14 val_main_v12 val_main_v10 val_main_v9 val_main_v8
  generalize val_main_v7 x = u
  pointwise [val_main_v19, val_main_v18, val_main_v13, val_main_v11, val_main_cst, val_main_cst_0, val_main_cst_1]
  rfl

theorem norm_k : val_main_v69 x g (ix4 b s h d) = headNorm (fun k => val_main_v56 x (ix4 b s h k)) (fun k => g (ix1 k)) d := by
  unfold val_main_v69 val_main_v66 val_main_v65 val_main_v64 val_main_v63 val_main_v61 val_main_v59 val_main_v58 val_main_v57
  generalize val_main_v56 x = u
  pointwise [val_main_v68, val_main_v67, val_main_v62, val_main_v60, val_main_cst_5, val_main_cst_6, val_main_cst_7]
  rfl

/-- The reference's queries, -/
theorem ref_q : val_main_v104 x g (ix4 b h s d) = headAt x g 0 b s h d * scale := by
  have e : val_main_v53 x g (ix4 b s h d) = headAt x g 0 b s h d :=
    (turn_apply (val_main_v20 x g) (val_main_v40 (F := Ideal)) (val_main_v43 (F := Ideal)) _ _ _ b s h d (cosAt s) (sinAt s)
      (cos_apply b s h) (sin_apply b s h)).trans (congrArg (fun y => turned y _ _ d) (funext fun k => (norm_q x g b s h k).trans
        (congrArg (fun u => headNorm u _ k) (funext fun k => heads_of x _ _ _ _ 0 b s h k (rowOf b s) rfl rfl))))
  rw [← e]
  unfold val_main_v104 val_main_v55 val_main_v54 val_main_cst_4
  generalize val_main_v53 x g = z
  pointwise []

/-- its keys, -/
theorem ref_k : val_main_v105 x g (ix4 b h s d) = headAt x g 1 b s h d := by
  have e : val_main_v102 x g (ix4 b s h d) = headAt x g 1 b s h d :=
    (turn_apply (val_main_v69 x g) (val_main_v40 (F := Ideal)) (val_main_v43 (F := Ideal)) _ _ _ b s h d (cosAt s) (sinAt s)
      (cos_apply b s h) (sin_apply b s h)).trans (congrArg (fun y => turned y _ _ d) (funext fun k => (norm_k x g b s h k).trans
        (congrArg (fun u => headNorm u _ k) (funext fun k => heads_of x _ _ _ _ 1 b s h k (rowOf b s) rfl rfl))))
  rw [← e]
  unfold val_main_v105
  generalize val_main_v102 x g = z
  pointwise []

/-- and its values. -/
theorem ref_v : val_main_v106 x (ix4 b h s d) = x (ix2 (rowOf b s) (colOf 2 h d)) := by
  have e : val_main_v103 x (ix4 b s h d) = x (ix2 (rowOf b s) (colOf 2 h d)) := heads_of x _ _ _ _ 2 b s h d (rowOf b s) rfl rfl
  rw [← e]
  unfold val_main_v106
  generalize val_main_v103 x = z
  pointwise []

end

section
open Cert.Kernel10Ideal Cert.Kernel10Ideal.Gen Cert.Kernel10Ideal.Value

/-- One head of the keys, from its columns, the gain and the tables. -/
def kHead {F : FTy → Type} [FloatOps F] (cos sin v : Vec F S8x64 .f32) (g : Vec F S1x64 .f32) : FVec F S1x1x8x64 .f32 :=
  k0_pay7 (k0_pay2 cos) (k0_pay3 sin) v (k0_pay5 g) (k0_pay6 v)

theorem kHead_apply (cos sin v : Vec Ideal S8x64 .f32) (g : Vec Ideal S1x64 .f32) (r : Fin 8) (d : Fin 64) :
    kHead cos sin v g (ix4 (0 : Fin 1) (0 : Fin 1) r d)
      = rotated (headNorm (fun k => v (ix2 r k)) fun k => g (ix2 (0 : Fin 1) k)) (fun k => cos (ix2 r k)) (fun k => sin (ix2 r k)) d := by
  pointwise [kHead, k0_pay7, k0_pay2, k0_pay3, k0_pay5, k0_pay6]
  rfl

/-- A head of the queries is one of the keys, scaled. -/
theorem qHead_apply (cos sin v : Vec Ideal S8x64 .f32) (g : Vec Ideal S1x64 .f32) (r : Fin 8) (d : Fin 64) :
    k0_pay4 cos sin v g (ix4 (0 : Fin 1) (0 : Fin 1) r d) = kHead cos sin v g (ix4 (0 : Fin 1) (0 : Fin 1) r d) * scale := by
  pointwise [kHead, k0_pay4, k0_pay7, k0_pay2, k0_pay3, k0_pay5, k0_pay6]

theorem vHead_apply (v : Vec Ideal S8x64 .f32) (r : Fin 8) (d : Fin 64) : k0_pay1 v (ix4 (0 : Fin 1) (0 : Fin 1) r d) = v (ix2 r d) := by
  pointwise [k0_pay1]

section
variable {F : FTy → Type} [FloatOps F] (x0 : Vec F S8x3072 .f32) (x1 x2 : Vec F S1x64 .f32) (x3 x4 : Vec F S8x128 .f32)

/-- What a point leaves of the queries, the keys and the values. -/
theorem left_q : out0_5 x0 x1 x2 x3 x4
    = View.canon (stores fun h => k0_pay4 (View.ld x3 r0_0) (View.ld x4 r0_0) (cols x0 0 h) (View.ld x1 r0_2)) := rfl
theorem left_k : out0_6 x0 x1 x2 x3 x4
    = View.canon (stores fun h => kHead (View.ld x3 r0_0) (View.ld x4 r0_0) (cols x0 1 h) (View.ld x2 r0_2)) := rfl
theorem left_v : out0_7 x0 x1 x2 x3 x4 = View.canon (stores fun h => k0_pay1 (cols x0 2 h)) := rfl

end

variable (m : (ℓ : Loc nD τ sig) → Buf (Elt Ideal) ℓ)

/-- The region finds the table of the cosines, -/
theorem found_cos (c : Dev nD) : V m c main_v20 = twice (S := 8) (Cert.Reference10Ideal.Read.val_main_v33 (F := Ideal))
    (Cert.Reference10Ideal.Read.val_main_v33 (F := Ideal)) concatenates_S8x32_S8x32_S8x64_d1 shapeCasts_S8x64_S1x8x1x64
    bcast_S1x8x1x64_S1x8x2x64_0_1_2_3 shapeCasts_S1x8x2x64_S8x128 := by
  dsimp only [V, hostOps0]; after_results <;> rfl
/-- that of the sines, with the sign changed in the first half, -/
theorem found_sin (c : Dev nD) : V m c main_v25 = twice (S := 8) (Host.negf (Cert.Reference10Ideal.Read.val_main_v35 (F := Ideal)))
    (Cert.Reference10Ideal.Read.val_main_v35 (F := Ideal)) concatenates_S8x32_S8x32_S8x64_d1 shapeCasts_S8x64_S1x8x1x64
    bcast_S1x8x1x64_S1x8x2x64_0_1_2_3 shapeCasts_S1x8x2x64_S8x128 := by
  dsimp only [V, hostOps0]; after_results <;> rfl
/-- and the gains as rows. -/
theorem found_q (c : Dev nD) : V m c main_v26 = shapeCast _ (m ((c : Thread nD τ).loc main_arg1)) shapeCasts_S64_S1x64 := by
  dsimp only [V, hostOps0]; after_results <;> rfl
theorem found_k (c : Dev nD) : V m c main_v27 = shapeCast _ (m ((c : Thread nD τ).loc main_arg2)) shapeCasts_S64_S1x64 := by
  dsimp only [V, hostOps0]; after_results <;> rfl

/-- Grid point `t` works on the whole of sequence `t`. -/
theorem idx : ∀ t : Fin cfg0.N, (win0_0.index t = ![t.val, 0] ∧ win0_1.index t = ![0, 0] ∧ win0_2.index t = ![0, 0]
    ∧ win0_3.index t = ![0, 0] ∧ win0_4.index t = ![0, 0])
    ∧ (win0_5.index t = ![t.val, 0, 0, 0] ∧ win0_6.index t = ![t.val, 0, 0, 0] ∧ win0_7.index t = ![t.val, 0, 0, 0]) ∧ t.val < 32 :=
  (by decide +kernel : ∀ t : Fin grid0.N, _)

variable (c : Dev nD) (t : Fin cfg0.N) (h : Fin 16) (r : Fin 8) (d : Fin 64)

/-- Of the gains a point reads all, -/
theorem gain_q : iblk m c 1 t (ix2 (0 : Fin 1) d) = (m ((c : Thread nD τ).loc main_arg1) : Vec Ideal S64 .f32) (ix1 d) := by
  obtain ⟨⟨-, i1, -⟩, -⟩ := idx t
  refine (congrArg (V m c main_v26) (?_ : _ = ix2 (0 : Fin 1) d)).trans ((congrFun (found_q m c) _).trans (one_row _ _ d))
  blk_ext [i1]
theorem gain_k : iblk m c 2 t (ix2 (0 : Fin 1) d) = (m ((c : Thread nD τ).loc main_arg2) : Vec Ideal S64 .f32) (ix1 d) := by
  obtain ⟨⟨-, -, i2, -⟩, -⟩ := idx t
  refine (congrArg (V m c main_v27) (?_ : _ = ix2 (0 : Fin 1) d)).trans ((congrFun (found_k m c) _).trans (one_row _ _ d))
  blk_ext [i2]

variable (hb : t.val < 32)

/-- and of the columns those of its positions. -/
theorem found_cols (p : Fin 3) : cols (iblk m c 0 t) p h (ix2 r d)
    = (m ((c : Thread nD τ).loc main_arg0) : Vec Ideal S256x3072 .f32) (ix2 (rowOf ⟨t.val, hb⟩ r) (colOf p h d)) := by
  obtain ⟨⟨i0, -⟩, -⟩ := idx t
  rw [cols_apply]
  refine (congrFun (V_main_arg0 m c) _).trans (congrArg _ ?_); blk_ext [i0, rowOf]

/-- A point's head of the keys (of the queries, before the scale), from columns `p` with the gain `g`. -/
theorem found_head (p : Fin 3) (g : Vec Ideal S1x64 .f32) (G : Vec Ideal S64 .f32) (eg : ∀ k, g (ix2 (0 : Fin 1) k) = G (ix1 k)) :
    kHead (View.ld (iblk m c 3 t) r0_0) (View.ld (iblk m c 4 t) r0_0) (cols (iblk m c 0 t) p h) (View.ld g r0_2)
        (ix4 (0 : Fin 1) (0 : Fin 1) r d)
      = headAt (m ((c : Thread nD τ).loc main_arg0)) G p ⟨t.val, hb⟩ r h d := by
  obtain ⟨⟨-, -, -, i3, i4⟩, -⟩ := idx t
  have e3 (k : Fin 128) : iblk m c 3 t (ix2 r k) = V m c main_v20 (ix2 r k) := by
    refine congrArg (V m c main_v20) ?_; blk_ext [i3]
  have e4 (k : Fin 128) : iblk m c 4 t (ix2 r k) = V m c main_v25 (ix2 r k) := by
    refine congrArg (V m c main_v25) ?_; blk_ext [i4]
  refine (kHead_apply _ _ _ _ r d).trans ((rotated_tables _ _ _ _ _ _ _ _ _ _ r _ (fun k => (e3 k).trans (congrFun (found_cos m c) _))
    (fun k => (e4 k).trans (congrFun (found_sin m c) _)) d).trans ?_)
  rw [View.ld_unit_zero (S := S1x64) off2 _ g]
  simp only [found_cols m c t h r _ hb p, eg]
  rfl

/-- The queries after the run are the reference's, -/
theorem final_q (c : Dev nD) : (dats m 0 c).arrAt 5 cfg0.N = Cert.Reference10Ideal.Read.val_main_v104
    (m ((c : Thread nD τ).loc main_arg0)) (m ((c : Thread nD τ).loc main_arg1)) := by
  refine (dats m 0 c).arrAt_eq_of_covers 5 _ (by decide +kernel) fun t _ y => ?_
  obtain ⟨z, h, r, d, rfl⟩ : ∃ (z : Fin 1) (h : Fin 16) (r : Fin 8) (d : Fin 64), y = ix4 z h r d := ⟨y 0, y 1, y 2, y 3, eq_ix4 y⟩
  obtain rfl := Subsingleton.elim z 0
  obtain ⟨-, ⟨i5, -⟩, hb⟩ := idx t
  blk_simp
  rw [after0_5, left_q, stores_apply, show (win0_5.blk t).view.emb (ix4 (0 : Fin 1) h r d) = ix4 ⟨t.val, hb⟩ h r d from by blk_ext [i5], ref_q]
  exact (qHead_apply _ _ _ _ r d).trans (congrArg (· * scale) (found_head m c t h r d hb 0 _ _ (gain_q m c t)))

/-- so the keys, -/
theorem final_k (c : Dev nD) : (dats m 0 c).arrAt 6 cfg0.N = Cert.Reference10Ideal.Read.val_main_v105
    (m ((c : Thread nD τ).loc main_arg0)) (m ((c : Thread nD τ).loc main_arg2)) := by
  refine (dats m 0 c).arrAt_eq_of_covers 6 _ (by decide +kernel) fun t _ y => ?_
  obtain ⟨z, h, r, d, rfl⟩ : ∃ (z : Fin 1) (h : Fin 16) (r : Fin 8) (d : Fin 64), y = ix4 z h r d := ⟨y 0, y 1, y 2, y 3, eq_ix4 y⟩
  obtain rfl := Subsingleton.elim z 0
  obtain ⟨-, ⟨-, i6, -⟩, hb⟩ := idx t
  blk_simp
  rw [after0_6, left_k, stores_apply, show (win0_6.blk t).view.emb (ix4 (0 : Fin 1) h r d) = ix4 ⟨t.val, hb⟩ h r d from by blk_ext [i6], ref_k]
  exact found_head m c t h r d hb 1 _ _ (gain_k m c t)

/-- and the values. -/
theorem final_v (c : Dev nD) : (dats m 0 c).arrAt 7 cfg0.N = Cert.Reference10Ideal.Read.val_main_v106 (m ((c : Thread nD τ).loc main_arg0)) := by
  refine (dats m 0 c).arrAt_eq_of_covers 7 _ (by decide +kernel) fun t _ y => ?_
  obtain ⟨z, h, r, d, rfl⟩ : ∃ (z : Fin 1) (h : Fin 16) (r : Fin 8) (d : Fin 64), y = ix4 z h r d := ⟨y 0, y 1, y 2, y 3, eq_ix4 y⟩
  obtain rfl := Subsingleton.elim z 0
  obtain ⟨-, ⟨-, -, i7⟩, hb⟩ := idx t
  blk_simp
  rw [after0_7, left_v, stores_apply, show (win0_7.blk t).view.emb (ix4 (0 : Fin 1) h r d) = ix4 ⟨t.val, hb⟩ h r d from by blk_ext [i7], ref_v]
  exact (vHead_apply _ r d).trans (found_cols m c t h r d hb 2)

theorem algebraic : Cert.algebraic_Kernel10Ideal_Reference10Ideal := by
  intro m ρ m' ρ' _ hagree
  refine ⟨_, _, _, run_blocks m ρ, ?_⟩
  refine (θ_run Cert.Reference10Ideal.defs _ _).mono (fun _ h c => ⟨?_, ?_, ?_, (h c).2.2.2⟩) (Cert.Reference10Ideal.Value.run (F := Ideal) m' ρ')
    <;> obtain ⟨e0, e1, e2⟩ := hagree c
  · rw [(h c).1, final_q, ← e0, ← e1]
    exact Cert.Reference10Ideal.Read.val_main_v104_eq _ _
  · rw [(h c).2.1, final_k, ← e0, ← e2]
    exact Cert.Reference10Ideal.Read.val_main_v105_eq _ _
  · rw [(h c).2.2.1, final_v, ← e0]
    exact Cert.Reference10Ideal.Read.val_main_v106_eq _

end

end Sample

end Cert.Proof.Heads

end
-- ==== Proof.PageMean.lean ====
/- The means of the pages of the keys' pool (program 16). A grid point takes sixteen pages of one layer, each with sixteen heads
   of 64 columns by 128 positions, and writes a row of 1024 means a page, two heads at a time. -/
module

public import proofs.«01_k».proof.Defs
public import proofs.«01_k».proof.Proof.Tokens
public import proofs.«01_k».proof.Proof.Gen.Kernel16Ideal.Value
public import proofs.«01_k».proof.Proof.Gen.Reference16Ideal.Read
public import Idealize.ShloMosaic.Lib.Pipeline.ValueKit.Acc
public import Idealize.ShloMosaic.Lib.Pipeline.ValueKit.Geometry
public import Idealize.ShloMosaic.Lib.Pipeline.ValueKit.Tiles

@[expose] public section

noncomputable section

namespace Cert.Proof.PageMean

open Cert.Proof.Tokens (place)
open Idealize.ShloMosaic Idealize.ShloMosaic.TcCoe Idealize.SL.Sem Idealize.ShloMosaic.StableHlo

/-- The lane of column `d` of the head `k` of a pair. -/
def lane (k : Fin 2) (d : Fin 64) : Fin 128 := ⟨k.val * 64 + d.val, by omega⟩

/-- The head `k` of pair `q`. -/
def headOf (q : Fin 8) (k : Fin 2) : Fin 16 := ⟨q.val * 2 + k.val, by omega⟩

/-- A value placed where row `j`, moved by `e` heads, meets lane `lane k d`. -/
theorem on_diagonal (k e : Fin 2) (d j : Fin 64) (a : EReal) :
    Scalar.select (IntOp.cmpi .eq (BitVec.ofNat 32 (lane k d).val) (BitVec.ofNat 32 j.val + BitVec.ofNat 32 (e.val * 64))) a 0
      = if k = e ∧ j = d then a else 0 := by
  unfold Scalar.select IntOp.cmpi
  by_cases h : k = e ∧ j = d
  · obtain ⟨rfl, rfl⟩ := h
    refine (if_pos ?_).trans (if_pos ⟨rfl, rfl⟩).symm
    show BitVec.ofBool (BitVec.ofNat 32 (k.val * 64 + j.val) == BitVec.ofNat 32 j.val + BitVec.ofNat 32 (k.val * 64)) = 1
    rw [← BitVec.ofNat_add, Nat.add_comm j.val, beq_self_eq_true]; rfl
  · refine (if_neg ?_).trans (if_neg h).symm
    show ¬ BitVec.ofBool (BitVec.ofNat 32 (k.val * 64 + d.val) == BitVec.ofNat 32 j.val + BitVec.ofNat 32 (e.val * 64)) = 1
    rw [← BitVec.ofNat_add, beq_false_of_ne]
    · exact (by decide : ¬ BitVec.ofBool false = 1)
    · intro w
      have w' := congrArg BitVec.toNat w
      rw [BitVec.toNat_ofNat, BitVec.toNat_ofNat, Nat.mod_eq_of_lt (by omega), Nat.mod_eq_of_lt (by omega)] at w'
      exact h ⟨Fin.ext (by omega), Fin.ext (by omega)⟩

/-- Dividing by 128 is multiplying by its inverse, which the format holds. -/
theorem over_page (x : EReal) : Ideal.div x (Ideal.ofBits .f32 0x43000000#32) = x * Ideal.ofBits .f32 0x3C000000#32 := by
  have h : Ideal.ofBits .f32 0x43000000#32 = ((128 : ℝ) : EReal) := by simp [Ideal.ofBits, Ideal.ieee, -EReal.coe_mul]; norm_num
  have h' : Ideal.ofBits .f32 0x3C000000#32 = ((1 / 128 : ℝ) : EReal) := by simp [Ideal.ofBits, Ideal.ieee, -EReal.coe_mul]; norm_num
  rw [h, h', Ideal.div_coe (by norm_num)]

section
open Cert.Reference16Ideal Cert.Reference16Ideal.Read

/-- The reference at a page, a pair of heads, one of the two and a column. -/
theorem ref_apply (x : Vec Ideal S2x2560x16x128x64 .f32) (l : Fin 2) (g : Fin 2560) (q : Fin 8) (k : Fin 2) (d : Fin 64) (n : Fin 1024)
    (hn : n.val = q.val * 128 + (lane k d).val) :
    val_main_v3 x (ix3 l g n) = (∑ s, x (ix5 l g (headOf q k) s d)) * Ideal.ofBits .f32 0x3C000000#32 := by
  have e : val_main_v3 x (ix3 l g n) = val_main_v2 x (ix4 l g (headOf q k) d) := by
    refine shapeCast_apply _ _ _ _ ?_
    rewrite [Shape.rowMajor_val_four, Shape.rowMajor_val_three]
    show ((l.val * 2560 + g.val) * 16 + (q.val * 2 + k.val)) * 64 + d.val = (l.val * 2560 + g.val) * 1024 + n.val
    rw [hn]; show _ = _ + (q.val * 128 + (k.val * 64 + d.val)); omega
  rw [e, ← over_page]
  pointwise [val_main_v2, val_main_v1, val_main_v0, val_main_cst, val_main_cst_0]

end

section
open Cert.Kernel16Ideal Cert.Kernel16Ideal.Gen Cert.Kernel16Ideal.Value

theorem headInb (p h : Fin 16) (a : Fin 5) : (![0, p.val, h.val, 0, 0] : Fin 5 → ℕ) a + S1x1x1x64x128.size a ≤ S1x16x16x64x128.size a := by
  fin_cases a
  · show 0 + 1 ≤ 1; omega
  · show p.val + 1 ≤ 16; omega
  · show h.val + 1 ≤ 16; omega
  · show 0 + 64 ≤ 64; omega
  · show 0 + 128 ≤ 128; omega

section
variable {F : FTy → Type} [FloatOps F]

/-- Head `h` of page `p` of a block. -/
def head (x : Vec F S1x16x16x64x128 .f32) (p h : Fin 16) : Vec F S1x1x1x64x128 .f32 :=
  View.ld x (Rect.unit (s := S1x16x16x64x128) ![0, p.val, h.val, 0, 0] S1x1x1x64x128.size (headInb p h))

theorem head_apply (x : Vec F S1x16x16x64x128 .f32) (p h : Fin 16) (d : Fin 64) (s : Fin 128) :
    head x p h (ix5 (0 : Fin 1) (0 : Fin 1) (0 : Fin 1) d s) = x (ix5 (0 : Fin 1) p h d s) :=
  View.ld_unit_apply_of _ _ _ _ _ _ fun a => by
    fin_cases a
    · rfl
    · rfl
    · rfl
    · exact (Nat.zero_add _).symm
    · exact (Nat.zero_add _).symm

theorem pairInb (n : Fin 128) (a : Fin 3) :
    (![0, 15 - n.val / 8, (7 - n.val % 8) * 128] : Fin 3 → ℕ) a + S1x1x128.size a ≤ S1x16x1024.size a := by
  fin_cases a
  · show 0 + 1 ≤ 1; omega
  · show 15 - n.val / 8 + 1 ≤ 16; omega
  · show (7 - n.val % 8) * 128 + 128 ≤ 1024; omega

/-- The stores of the pairs of heads `P`, page by page, the last first. -/
def stores (P : Fin 16 → Fin 8 → FVec F S1x1x128 .f32) : List (View.Piece (Elt F) S1x16x1024 .f32) :=
  List.ofFn fun n : Fin 128 =>
    ⟨Rect.unit (s := S1x16x1024) ![0, 15 - n.val / 8, (7 - n.val % 8) * 128] S1x1x128.size (pairInb n),
      P ⟨15 - n.val / 8, by omega⟩ ⟨7 - n.val % 8, by omega⟩⟩

/-- Read back, pair `q` of page `p` is `P p q`. -/
theorem stores_apply (P : Fin 16 → Fin 8 → FVec F S1x1x128 .f32) (p : Fin 16) (q : Fin 8) (l : Fin 128) (n : Fin 1024)
    (hn : n.val = q.val * 128 + l.val) : View.canon (stores P) (ix3 (0 : Fin 1) p n) = P p q (ix3 (0 : Fin 1) (0 : Fin 1) l) := by
  refine View.canon_ofFn_unit_eq_of_forall (Val := Elt F) (S := S1x16x1024) (e := .f32) (N := 128)
    (fun n : Fin 128 => ![0, 15 - n.val / 8, (7 - n.val % 8) * 128]) S1x1x128.size pairInb
    (fun n => P ⟨15 - n.val / 8, by omega⟩ ⟨7 - n.val % 8, by omega⟩) (ix3 (0 : Fin 1) p n) _
    ⟨⟨(15 - p.val) * 8 + (7 - q.val), by omega⟩, fun a => ?_⟩ fun i x hx => ?_
  · fin_cases a
    · exact ⟨le_refl 0, show 0 < 0 + 1 by omega⟩
    · show 15 - ((15 - p.val) * 8 + (7 - q.val)) / 8 ≤ p.val ∧ p.val < 15 - ((15 - p.val) * 8 + (7 - q.val)) / 8 + 1; omega
    · show (7 - ((15 - p.val) * 8 + (7 - q.val)) % 8) * 128 ≤ n.val ∧ n.val < (7 - ((15 - p.val) * 8 + (7 - q.val)) % 8) * 128 + 128
      omega
  · have h1 : p.val = 15 - i.val / 8 + (x 1).val := hx 1
    have h2 : n.val = (7 - i.val % 8) * 128 + (x 2).val := hx 2
    have b0 : (x 0).val < 1 := (x 0).isLt
    have b1 : (x 1).val < 1 := (x 1).isLt
    have b2 : (x 2).val < 128 := (x 2).isLt
    have ep : (⟨15 - i.val / 8, by omega⟩ : Fin 16) = p := Fin.ext (by show 15 - i.val / 8 = p.val; omega)
    have eq : (⟨7 - i.val % 8, by omega⟩ : Fin 8) = q := Fin.ext (by show 7 - i.val % 8 = q.val; omega)
    have ex : x = ix3 (0 : Fin 1) (0 : Fin 1) l := by
      funext a
      apply Fin.ext
      fin_cases a
      · show (x 0).val = 0; omega
      · show (x 1).val = 0; omega
      · show (x 2).val = l.val; omega
    show P ⟨15 - i.val / 8, _⟩ ⟨7 - i.val % 8, _⟩ x = _
    rw [ep, eq, ex]

end

/-- A pair's row: of each head the mean over the positions. -/
theorem pair_apply (P : Fin 2 → Vec Ideal S1x1x1x64x128 .f32) (k : Fin 2) (d : Fin 64) :
    k0_pay2 (P 0) (P 1) (ix3 (0 : Fin 1) (0 : Fin 1) (lane k d))
      = (∑ s, P k (ix5 (0 : Fin 1) (0 : Fin 1) (0 : Fin 1) d s)) * Ideal.ofBits .f32 0x3C000000#32 := by
  pointwise [k0_pay2]
  refine congrArg (· * _) ((Finset.sum_congr rfl fun j _ => congrArg₂ (· + ·) (on_diagonal k 0 d j _) (on_diagonal k 1 d j _)).trans ?_)
  obtain rfl | rfl : k = 0 ∨ k = 1 := by omega
  · simp
  · simp

variable (m : (ℓ : Loc nD τ sig) → Buf (Elt Ideal) ℓ)

/-- Grid point `t` works on the sixteen pages `t % 160` of layer `t / 160`. -/
theorem idx : ∀ t : Fin cfg0.N, win0_0.index t = ![t.val / 160, t.val % 160, 0, 0, 0] ∧ win0_1.index t = ![t.val / 160, t.val % 160, 0]
    ∧ t.val / 160 < 2 ∧ (t.val % 160 + 1) * 16 ≤ 2560 :=
  (by decide +kernel : ∀ t : Fin grid0.N, _)

/-- The region finds the pool with each head's columns before its positions. -/
theorem found (c : Dev nD) : V m c main_v0 = transpose S2x2560x16x64x128 [0, 1, 2, 4, 3]
    (m ((c : Thread nD τ).loc main_arg0) : Vec Ideal S2x2560x16x128x64 .f32) transposes_S2x2560x16x128x64_S2x2560x16x64x128_0_1_2_4_3 := by
  dsimp only [V, hostOps0]; after_results <;> rfl

theorem found_apply (c : Dev nD) (l : Fin 2) (g : Fin 2560) (h : Fin 16) (d : Fin 64) (s : Fin 128) :
    V m c main_v0 (ix5 l g h d s) = m ((c : Thread nD τ).loc main_arg0) (ix5 l g h s d) := by
  refine (congrFun (found m c) _).trans ?_
  generalize (m ((c : Thread nD τ).loc main_arg0) : Vec Ideal S2x2560x16x128x64 .f32) = y
  pointwise []

/-- What a point leaves. -/
theorem left {F : FTy → Type} [FloatOps F] (x : Vec F S1x16x16x64x128 .f32) :
    out0_1 x = View.canon (stores fun p q => k0_pay2 (head x p (headOf q 0)) (head x p (headOf q 1))) := rfl

theorem final (c : Dev nD) : (dats m 0 c).arrAt 1 cfg0.N = Cert.Reference16Ideal.Read.val_main_v3 (m ((c : Thread nD τ).loc main_arg0)) := by
  refine (dats m 0 c).arrAt_eq_of_covers 1 _ (by decide +kernel) fun t _ y => ?_
  obtain ⟨z, p, n, rfl⟩ : ∃ (z : Fin 1) (p : Fin 16) (n : Fin 1024), y = ix3 z p n := ⟨y 0, y 1, y 2, eq_ix3 y⟩
  obtain rfl := Subsingleton.elim z 0
  obtain ⟨q, k, d, hn⟩ : ∃ (q : Fin 8) (k : Fin 2) (d : Fin 64), n.val = q.val * 128 + (lane k d).val :=
    ⟨⟨n.val / 128, by omega⟩, ⟨n.val / 64 % 2, by omega⟩, ⟨n.val % 64, by omega⟩, by
      show n.val = n.val / 128 * 128 + (n.val / 64 % 2 * 64 + n.val % 64); omega⟩
  obtain ⟨i0, i1, hl, hg⟩ := idx t
  blk_simp
  rw [after0_1, left, stores_apply _ p q (lane k d) n hn, show (win0_1.blk t).view.emb (ix3 (0 : Fin 1) p n)
    = ix3 ⟨t.val / 160, hl⟩ (place 16 (t.val % 160) p hg) n from by blk_ext [i1, place], ref_apply _ _ _ q k d n hn]
  refine (pair_apply (fun k => head (iblk m c 0 t) p (headOf q k)) k d).trans ?_
  congr 1
  refine Finset.sum_congr rfl fun s _ => (head_apply _ _ _ _ _).trans (Eq.trans (congrArg (V m c main_v0) ?_) (found_apply m c _ _ _ d s))
  blk_ext [i0, place]

theorem algebraic : Cert.algebraic_Kernel16Ideal_Reference16Ideal := by
  intro m ρ m' ρ' _ hagree
  refine ⟨_, run_blocks m ρ, ?_⟩
  refine (θ_run Cert.Reference16Ideal.defs _ _).mono (fun _ h c => ⟨?_, (h c).2⟩) (Cert.Reference16Ideal.Value.run (F := Ideal) m' ρ')
  rw [(h c).1, final, hagree c]
  exact Cert.Reference16Ideal.Read.val_main_v3_eq _

end

end Cert.Proof.PageMean
-- ==== Proof.lean ====
/- The certificate: for each of the programs its frames (they end, leave their arguments and their semaphores as they were),
   that the ideal kernel is the kernel, and that it computes what the reference computes, from the modules beside this one. -/
module

public import proofs.«01_k».proof.Defs
public import proofs.«01_k».proof.Proof.Experts
public import proofs.«01_k».proof.Proof.Embed
public import proofs.«01_k».proof.Proof.Dense
public import proofs.«01_k».proof.Proof.InProj
public import proofs.«01_k».proof.Proof.Out
public import proofs.«01_k».proof.Proof.Heads
public import proofs.«01_k».proof.Proof.PageMean
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.KernelIdeal.Frame
public import proofs.«01_k».proof.Proof.Gen.Kernel2Ideal.Frame
public import proofs.«01_k».proof.Proof.Gen.Kernel3Ideal.Frame
public import proofs.«01_k».proof.Proof.Gen.Kernel4Ideal.Frame
public import proofs.«01_k».proof.Proof.Gen.Kernel5Ideal.Frame
public import proofs.«01_k».proof.Proof.Gen.Kernel6Ideal.Frame
public import proofs.«01_k».proof.Proof.Gen.Kernel7Ideal.Frame
public import proofs.«01_k».proof.Proof.Gen.Kernel8Ideal.Frame
public import proofs.«01_k».proof.Proof.Gen.Kernel9Ideal.Frame
public import proofs.«01_k».proof.Proof.Gen.Kernel10Ideal.Frame
public import proofs.«01_k».proof.Proof.Gen.Kernel11Ideal.Frame
public import proofs.«01_k».proof.Proof.Gen.Kernel12Ideal.Frame
public import proofs.«01_k».proof.Proof.Gen.Kernel13Ideal.Frame
public import proofs.«01_k».proof.Proof.Gen.Kernel14Ideal.Frame
public import proofs.«01_k».proof.Proof.Gen.Kernel15Ideal.Frame
public import proofs.«01_k».proof.Proof.Gen.Kernel16Ideal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Pre_finite
public import Idealize.ShloMosaic.Adequacy
public import Idealize.ShloMosaic.Init
public import Idealize.ShloMosaic.Lib.Quiescent

@[expose] public section

noncomputable section

namespace Cert.Proof

open Idealize.ShloMosaic Idealize.SL.Sem

/-- A program without semaphores, each device of which ends in `A`, ends with what `A` says of the device's arguments, and with
    every counter at zero. -/
theorem at_rest {nD : Nat} {τ : Topo} {sig : RefSig} {Val : EltTy → Type} {Λ : Labels} {defs : Defs nD τ sig Val Λ}
    {p : (c : Thread nD τ) → Prog (TpuEff nD τ sig Val Λ c.2) PUnit} {s : MemSt nD τ sig Val}
    {A B : Dev nD → PUnit × MemSt nD τ sig Val → Prop} (none : sig.nSem + sig.nDmaSem = 0) (args : ∀ c r, A c r → B c r)
    (run : θ_run defs p s fun r => ∀ c, A c r) : θ_run defs p s fun r => (∀ c, B c r) ∧ r.2.sem = fun _ => 0 :=
  (θ_run defs p s).mono (fun r h => ⟨fun c => args c r (h c), sem_eq_zero_of_no_sems none r.2⟩) run

/-- The frame of the experts' reference, which is claimed twice. -/
theorem experts : quiescent_ReferenceIdeal := fun m ρ _ => at_rest (by decide) (fun _ _ h => h.2) (Cert.ReferenceIdeal.Value.run m ρ)

/-- Everything claimed. -/
theorem claim : Cert.Claim := ⟨
  -- the side conditions of the programs' texts
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Pre_finite.Gen.facts,
  -- the frames: of each kernel, of its ideal form, of its reference
  fun m ρ _ => Cert.Kernel.Gen.frame m ρ, fun m ρ _ => Cert.KernelIdeal.Gen.frame m ρ, fun m ρ _ => Cert.KernelIdeal.Gen.frame m ρ,
  experts, fun m ρ _ => experts m ρ trivial,
  fun m ρ _ => Cert.Kernel2.Gen.frame m ρ, fun m ρ _ => Cert.Kernel2Ideal.Gen.frame m ρ,
  fun m ρ _ => at_rest (by decide) (fun _ _ h => h.2) (Cert.Reference2Ideal.Value.run m ρ),
  fun m ρ _ => Cert.Kernel3.Gen.frame m ρ, fun m ρ _ => Cert.Kernel3Ideal.Gen.frame m ρ,
  fun m ρ _ => at_rest (by decide) (fun _ _ h => h.2) (Cert.Reference3Ideal.Value.run m ρ),
  fun m ρ _ => Cert.Kernel4.Gen.frame m ρ, fun m ρ _ => Cert.Kernel4Ideal.Gen.frame m ρ,
  fun m ρ _ => at_rest (by decide) (fun _ _ h => h.2) (Cert.Reference4Ideal.Value.run m ρ),
  fun m ρ _ => Cert.Kernel5.Gen.frame m ρ, fun m ρ _ => Cert.Kernel5Ideal.Gen.frame m ρ,
  fun m ρ _ => at_rest (by decide) (fun _ _ h => h.2) (Cert.Reference5Ideal.Value.run m ρ),
  fun m ρ _ => Cert.Kernel6.Gen.frame m ρ, fun m ρ _ => Cert.Kernel6Ideal.Gen.frame m ρ,
  fun m ρ _ => at_rest (by decide) (fun _ _ h => h.2) (Cert.Reference6Ideal.Value.run m ρ),
  fun m ρ _ => Cert.Kernel7.Gen.frame m ρ, fun m ρ _ => Cert.Kernel7Ideal.Gen.frame m ρ,
  fun m ρ _ => at_rest (by decide) (fun _ _ h => h.2) (Cert.Reference7Ideal.Value.run m ρ),
  fun m ρ _ => Cert.Kernel8.Gen.frame m ρ, fun m ρ _ => Cert.Kernel8Ideal.Gen.frame m ρ,
  fun m ρ _ => at_rest (by decide) (fun _ _ h => h.2.2.2) (Cert.Reference8Ideal.Value.run m ρ),
  fun m ρ _ => Cert.Kernel9.Gen.frame m ρ, fun m ρ _ => Cert.Kernel9Ideal.Gen.frame m ρ,
  fun m ρ _ => at_rest (by decide) (fun _ _ h => h.2) (Cert.Reference9Ideal.Value.run m ρ),
  fun m ρ _ => Cert.Kernel10.Gen.frame m ρ, fun m ρ _ => Cert.Kernel10Ideal.Gen.frame m ρ,
  fun m ρ _ => at_rest (by decide) (fun _ _ h => h.2.2.2) (Cert.Reference10Ideal.Value.run m ρ),
  fun m ρ _ => Cert.Kernel11.Gen.frame m ρ, fun m ρ _ => Cert.Kernel11Ideal.Gen.frame m ρ,
  fun m ρ _ => at_rest (by decide) (fun _ _ h => h.2) (Cert.Reference11Ideal.Value.run m ρ),
  fun m ρ _ => Cert.Kernel12.Gen.frame m ρ, fun m ρ _ => Cert.Kernel12Ideal.Gen.frame m ρ,
  fun m ρ _ => at_rest (by decide) (fun _ _ h => h.2) (Cert.Reference12Ideal.Value.run m ρ),
  fun m ρ _ => Cert.Kernel13.Gen.frame m ρ, fun m ρ _ => Cert.Kernel13Ideal.Gen.frame m ρ,
  fun m ρ _ => at_rest (by decide) (fun _ _ h => h.2) (Cert.Reference13Ideal.Value.run m ρ),
  fun m ρ _ => Cert.Kernel14.Gen.frame m ρ, fun m ρ _ => Cert.Kernel14Ideal.Gen.frame m ρ,
  fun m ρ _ => at_rest (by decide) (fun _ _ h => h.2) (Cert.Reference14Ideal.Value.run m ρ),
  fun m ρ _ => Cert.Kernel15.Gen.frame m ρ, fun m ρ _ => Cert.Kernel15Ideal.Gen.frame m ρ,
  fun m ρ _ => at_rest (by decide) (fun _ _ h => h.2) (Cert.Reference15Ideal.Value.run m ρ),
  fun m ρ _ => Cert.Kernel16.Gen.frame m ρ, fun m ρ _ => Cert.Kernel16Ideal.Gen.frame m ρ,
  fun m ρ _ => at_rest (by decide) (fun _ _ h => h.2) (Cert.Reference16Ideal.Value.run m ρ),
  -- each ideal kernel is its kernel, and computes what its reference computes
  (trivial : preserves_Kernel_KernelIdeal), ExpertsEq.algebraic,
  (trivial : preserves_Kernel2_Kernel2Ideal), Embed.algebraic,
  (trivial : preserves_Kernel3_Kernel3Ideal), Dense.algebraic,
  (trivial : preserves_Kernel4_Kernel4Ideal), InProj.algebraicHyb,
  (trivial : preserves_Kernel5_Kernel5Ideal), InProj.algebraicAttn,
  (trivial : preserves_Kernel6_Kernel6Ideal), Out.algebraicHyb,
  (trivial : preserves_Kernel7_Kernel7Ideal), Out.algebraicAttn,
  (trivial : preserves_Kernel8_Kernel8Ideal), Heads.algebraic,
  (trivial : preserves_Kernel9_Kernel9Ideal), Embed.algebraicSample,
  (trivial : preserves_Kernel10_Kernel10Ideal), Heads.Sample.algebraic,
  (trivial : preserves_Kernel11_Kernel11Ideal), Dense.algebraicSample,
  (trivial : preserves_Kernel12_Kernel12Ideal), InProj.algebraicHybSample,
  (trivial : preserves_Kernel13_Kernel13Ideal), InProj.algebraicAttnSample,
  (trivial : preserves_Kernel14_Kernel14Ideal), Out.algebraicHybSample,
  (trivial : preserves_Kernel15_Kernel15Ideal), Out.algebraicAttnSample,
  (trivial : preserves_Kernel16_Kernel16Ideal), PageMean.algebraic⟩

end Cert.Proof

end
